-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sound [hPre_sound : Cert.Pre_sound.Facts] (m : (ℓ : Loc Cert.KernelIdeal.nD Cert.KernelIdeal.τ Cert.KernelIdeal.sig) → Buf (Elt Ideal) ℓ) : Prop :=
  ∀ c : Dev Cert.KernelIdeal.nD,
    (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound [hPre_sound : Cert.Pre_sound.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sound [hKernelIdeal : Cert.KernelIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sound m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sound [hReferenceIdeal : Cert.ReferenceIdeal.Facts] [hPre_sound : Cert.Pre_sound.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sound [hKernelIdeal : Cert.KernelIdeal.Facts] [hReferenceIdeal : Cert.ReferenceIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sound m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sound : Cert.Pre_sound.Facts),
    quiescent_Kernel (hKernel := hKernel)
    ∧ quiescent_KernelIdeal (hKernelIdeal := hKernelIdeal)
    ∧ quiescent_KernelIdeal_pre_sound (hKernelIdeal := hKernelIdeal) (hPre_sound := hPre_sound)
    ∧ quiescent_ReferenceIdeal (hReferenceIdeal := hReferenceIdeal)
    ∧ quiescent_ReferenceIdeal_pre_sound (hReferenceIdeal := hReferenceIdeal) (hPre_sound := hPre_sound)
    ∧ preserves_Kernel_KernelIdeal
    ∧ algebraic_KernelIdeal_ReferenceIdeal_pre_sound (hKernelIdeal := hKernelIdeal) (hReferenceIdeal := hReferenceIdeal) (hPre_sound := hPre_sound)
-- ==== Pre_sound.lean ====
abbrev S320000x128 : Shape := ⟨2, ![320000, 128]⟩
abbrev S320000 : Shape := ⟨1, ![320000]⟩
abbrev S100x320000 : Shape := ⟨2, ![100, 320000]⟩
abbrev S_ : Shape := ⟨0, ![]⟩
abbrev S100 : Shape := ⟨1, ![100]⟩

class Facts : Prop where
  bcast_S320000_S100x320000_1 : S320000.BroadcastsInDim S100x320000 (![1] : Fin 1 → Fin S100x320000.rank)
  bcast_S_S320000x128 : S_.BroadcastsInDim S320000x128 (![] : Fin 0 → Fin S320000x128.rank)
  reducesTo_S320000x128_S_d0_1 : S320000x128.ReducesTo [0, 1] S_
  h_S_ : 0 < S_.numel
  bcast_S_S320000 : S_.BroadcastsInDim S320000 (![] : Fin 0 → Fin S320000.rank)
  reducesTo_S320000_S_d0 : S320000.ReducesTo [0] S_
  reducesTo_S100x320000_S100_d1 : S100x320000.ReducesTo [1] S100
  reducesTo_S100_S_d0 : S100.ReducesTo [0] S_

variable [Facts]

def fn {F : FTy → Type} [FloatOps F] (main_arg0 : FVec F S320000x128 .f32) (main_arg1 : IVec S320000 32) : IVec S_ 1 :=
  let main_v0 : IVec S100x320000 32 := iotaInDim S100x320000 32 0
  let main_v1 : IVec S100x320000 32 := broadcastInDim S100x320000 ![1] bcast_S320000_S100x320000_1 main_arg1
  let main_v2 : IVec S100x320000 1 := cmpi .eq main_v0 main_v1
  let main_v3 : FVec F S320000x128 .f32 := Host.absf main_arg0
  let main_cst : FVec F S_ .f32 := constant S_ .f32 0x7F800000#32
  let main_v4 : FVec F S320000x128 .f32 := broadcastInDim S320000x128 ![] bcast_S_S320000x128 main_cst
  let main_v5 : IVec S320000x128 1 := cmpf .olt main_v3 main_v4
  let main_c : IVec S_ 1 := constantI S_ 1 1#1
  let main_v6 : IVec S_ 1 := (fun x v => Host.reduce IntOp.andi x v reducesTo_S320000x128_S_d0_1 h_S_) main_v5 main_c
  let main_c_0 : IVec S_ 32 := constantI S_ 32 0#32
  let main_v7 : IVec S320000 32 := broadcastInDim S320000 ![] bcast_S_S320000 main_c_0
  let main_v8 : IVec S320000 1 := cmpi .sge main_arg1 main_v7
  let main_c_1 : IVec S_ 32 := constantI S_ 32 100#32
  let main_v9 : IVec S320000 32 := broadcastInDim S320000 ![] bcast_S_S320000 main_c_1
  let main_v10 : IVec S320000 1 := cmpi .slt main_arg1 main_v9
  let main_v11 : IVec S320000 1 := andi main_v8 main_v10
  let main_c_2 : IVec S_ 1 := constantI S_ 1 1#1
  let main_v12 : IVec S_ 1 := (fun x v => Host.reduce IntOp.andi x v reducesTo_S320000_S_d0 h_S_) main_v11 main_c_2
  let main_v13 : IVec S_ 1 := andi main_v6 main_v12
  let main_c_3 : IVec S_ 1 := constantI S_ 1 0#1
  let main_v14 : IVec S100 1 := (fun x v => Host.reduce IntOp.ori x v reducesTo_S100x320000_S100_d1 h_S_) main_v2 main_c_3
  let main_c_4 : IVec S_ 1 := constantI S_ 1 1#1
  let main_v15 : IVec S_ 1 := (fun x v => Host.reduce IntOp.andi x v reducesTo_S100_S_d0 h_S_) main_v14 main_c_4
  let main_v16 : IVec S_ 1 := andi main_v13 main_v15
  main_v16
-- ==== Kernel.lean ====
abbrev S320000x128 : Shape := ⟨2, ![320000, 128]⟩
abbrev S320000 : Shape := ⟨1, ![320000]⟩
abbrev S100x1x3200 : Shape := ⟨3, ![100, 1, 3200]⟩
abbrev S100x128 : Shape := ⟨2, ![100, 128]⟩
abbrev S1x1x3200 : Shape := ⟨3, ![1, 1, 3200]⟩
abbrev S3200x128 : Shape := ⟨2, ![3200, 128]⟩
abbrev S3200 : Shape := ⟨1, ![3200]⟩
abbrev S100x3200 : Shape := ⟨2, ![100, 3200]⟩
abbrev S1x3200 : Shape := ⟨2, ![1, 3200]⟩
abbrev S100 : Shape := ⟨1, ![100]⟩
abbrev S100x1 : Shape := ⟨2, ![100, 1]⟩
abbrev S1x1 : Shape := ⟨2, ![1, 1]⟩
abbrev S1 : Shape := ⟨1, ![1]⟩
abbrev S100x100 : Shape := ⟨2, ![100, 100]⟩
abbrev S1x100 : Shape := ⟨2, ![1, 100]⟩
abbrev S1x100x100 : Shape := ⟨3, ![1, 100, 100]⟩
abbrev S1x1x1 : Shape := ⟨3, ![1, 1, 1]⟩
abbrev S_ : Shape := ⟨0, ![]⟩

abbrev nBuf : Space → Nat
  | .hbm => 7
  | .vmem => 13
  | .smem => 2
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S100x1x3200, .i32⟩
  | .hbm, ⟨3, _⟩ => ⟨S100x128, .f32⟩
  | .hbm, ⟨4, _⟩ => ⟨S100x128, .f32⟩
  | .hbm, ⟨5, _⟩ => ⟨S1x1, .f32⟩
  | .hbm, ⟨6, _⟩ => ⟨S_, .f32⟩
  | .local _ .vmem, ⟨0, _⟩ => ⟨S1x1x3200, .i32⟩
  | .local _ .vmem, ⟨1, _⟩ => ⟨S1x1x3200, .i32⟩
  | .local _ .vmem, ⟨2, _⟩ => ⟨S3200x128, .f32⟩
  | .local _ .vmem, ⟨3, _⟩ => ⟨S3200x128, .f32⟩
  | .local _ .vmem, ⟨4, _⟩ => ⟨S100x128, .f32⟩
  | .local _ .vmem, ⟨5, _⟩ => ⟨S100x128, .f32⟩
  | .local _ .vmem, ⟨6, _⟩ => ⟨S1x1x3200, .i32⟩
  | .local _ .vmem, ⟨7, _⟩ => ⟨S1x1x3200, .i32⟩
  | .local _ .vmem, ⟨8, _⟩ => ⟨S3200x128, .f32⟩
  | .local _ .vmem, ⟨9, _⟩ => ⟨S3200x128, .f32⟩
  | .local _ .vmem, ⟨10, _⟩ => ⟨S100x128, .f32⟩
  | .local _ .vmem, ⟨11, _⟩ => ⟨S100x128, .f32⟩
  | .local _ .vmem, ⟨12, _⟩ => ⟨S100x128, .f32⟩
  | .local _ .smem, ⟨0, _⟩ => ⟨S1x1, .f32⟩
  | .local _ .smem, ⟨1, _⟩ => ⟨S1, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc1_stg4_0 : Ref sig .tc := ⟨.smem, 0, rfl⟩
abbrev cc1_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x3200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![100], ![false]⟩

def k1_cond2 (i : grid1.Coords) : BitVec 1 :=
  let arg0 : BitVec 32 := BitVec.ofNat 32 (i 0).val
  let c99_i32 : BitVec 32 := 99#32
  let v25 : BitVec 1 := Scalar.cmpi .eq arg0 c99_i32
  let v26 : BitVec 32 := Scalar.extui v25
  let c0_i32_11 : BitVec 32 := 0#32
  let v27 : BitVec 1 := Scalar.cmpi .ne v26 c0_i32_11
  v27

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S320000x128 : Shape := ⟨2, ![320000, 128]⟩
abbrev S320000 : Shape := ⟨1, ![320000]⟩
abbrev S_ : Shape := ⟨0, ![]⟩
abbrev S100 : Shape := ⟨1, ![100]⟩
abbrev S320000x1 : Shape := ⟨2, ![320000, 1]⟩
abbrev S100x128 : Shape := ⟨2, ![100, 128]⟩
abbrev S100x1 : Shape := ⟨2, ![100, 1]⟩
abbrev S100x1x128 : Shape := ⟨3, ![100, 1, 128]⟩
abbrev S1x100x128 : Shape := ⟨3, ![1, 100, 128]⟩
abbrev S100x100x128 : Shape := ⟨3, ![100, 100, 128]⟩
abbrev S100x100 : Shape := ⟨2, ![100, 100]⟩

abbrev nBuf : Space → Nat
  | .hbm => 67
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S_, .i32⟩
  | .hbm, ⟨3, _⟩ => ⟨S100, .i32⟩
  | .hbm, ⟨4, _⟩ => ⟨S_, .i32⟩
  | .hbm, ⟨5, _⟩ => ⟨S_, .i32⟩
  | .hbm, ⟨6, _⟩ => ⟨S320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S_, .i32⟩
  | .hbm, ⟨17, _⟩ => ⟨S320000, .i32⟩
  | .hbm, ⟨18, _⟩ => ⟨S100, .i32⟩
  | .hbm, ⟨19, _⟩ => ⟨S100, .f32⟩
  | .hbm, ⟨20, _⟩ => ⟨S_, .f32⟩
  | .hbm, ⟨21, _⟩ => ⟨S100x128, .f32⟩
  | .hbm, ⟨22, _⟩ => ⟨S320000x1, .i32⟩
  | .hbm, ⟨23, _⟩ => ⟨S100x128, .f32⟩
  | .hbm, ⟨24, _⟩ => ⟨S100x1, .f32⟩
  | .hbm, ⟨25, _⟩ => ⟨S100x128, .f32⟩
  | .hbm, ⟨26, _⟩ => ⟨S100x128, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000x128, .f32⟩
  | .hbm, ⟨36, _⟩ => ⟨S320000x128, .f32⟩
  | .hbm, ⟨37, _⟩ => ⟨S320000x128, .f32⟩
  | .hbm, ⟨38, _⟩ => ⟨S_, .f32⟩
  | .hbm, ⟨39, _⟩ => ⟨S320000, .f32⟩
  | .hbm, ⟨40, _⟩ => ⟨S320000, .f32⟩
  | .hbm, ⟨41, _⟩ => ⟨S_, .f32⟩
  | .hbm, ⟨42, _⟩ => ⟨S_, .f32⟩
  | .hbm, ⟨43, _⟩ => ⟨S100x1x128, .f32⟩
  | .hbm, ⟨44, _⟩ => ⟨S1x100x128, .f32⟩
  | .hbm, ⟨45, _⟩ => ⟨S100x100x128, .f32⟩
  | .hbm, ⟨46, _⟩ => ⟨S100x100x128, .f32⟩
  | .hbm, ⟨47, _⟩ => ⟨S100x100x128, .f32⟩
  | .hbm, ⟨48, _⟩ => ⟨S100x100x128, .f32⟩
  | .hbm, ⟨49, _⟩ => ⟨S_, .f32⟩
  | .hbm, ⟨50, _⟩ => ⟨S100x100, .f32⟩
  | .hbm, ⟨51, _⟩ => ⟨S100x100, .f32⟩
  | .hbm, ⟨52, _⟩ => ⟨S100x100, .i32⟩
  | .hbm, ⟨53, _⟩ => ⟨S_, .i32⟩
  | .hbm, ⟨54, _⟩ => ⟨S100x100, .i32⟩
  | .hbm, ⟨55, _⟩ => ⟨S100x100, .i32⟩
  | .hbm, ⟨56, _⟩ => ⟨S100x100, .i32⟩
  | .hbm, ⟨57, _⟩ => ⟨S100x100, .i1⟩
  | .hbm, ⟨58, _⟩ => ⟨S_, .f32⟩
  | .hbm, ⟨59, _⟩ => ⟨S100x100, .f32⟩
  | .hbm, ⟨60, _⟩ => ⟨S100x100, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call2_v0 : Ref sig .tc := ⟨.hbm, 48, rfl⟩
abbrev main_call2_cst : Ref sig .tc := ⟨.hbm, 49, rfl⟩
abbrev main_call2_v1 : Ref sig .tc := ⟨.hbm, 50, rfl⟩
abbrev main_v32 : Ref sig .tc := ⟨.hbm, 51, rfl⟩
abbrev main_call3_v0 : Ref sig .tc := ⟨.hbm, 52, rfl⟩
abbrev main_call3_c : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_cst : Ref sig .tc := ⟨.hbm, 58, rfl⟩
abbrev main_call3_v5 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩

abbrev nD : Nat := 1
abbrev τ : Topo := Topo.v7x

variable {F : FTy → Type} [FloatOps F]
-- ==== Proof.KernelIdeal.Steps.lean ====
/-
  What one run of each kernel body does to its buffers: the triple of `cc0__pass1` and of `cc1__pass2` on whole staging
  buffers, with what every buffer holds afterwards written with the payloads of the printed text.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.WholeRead
public import Idealize.ShloMosaic.Lib.Ring
public import Idealize.ShloMosaic.Lib.Tactic
public import Idealize.ShloMosaic.Lib.Tactic.Stretches
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- A body's first branch is taken where the grid coordinate is zero. -/
abbrev atFirst (i : grid0.Coords) : Prop :=
  Scalar.cmpi .ne (Scalar.extui (Scalar.cmpi .eq (BitVec.ofNat 32 (i 0).val) 0#32)) 0#32 = 1#1

/-- The zero the second body starts its running total from. -/
def zero : F .f32 := Scalar.ofBits .f32 0x00000000#32

/-- A whole buffer loaded at its own sizes gives back what it holds. -/
theorem load_whole {sp : Space} {s : Shape} {e : EltTy} {r : Memref sig .tc sp s e} (h : r.IsWhole) (X : s.Idx → Elt F e)
    {off : Fin s.rank → ℕ} (inb : ∀ a, off a + s.size a ≤ s.size a) :
    r.view.readAt (Elt F) (Rect.unit off s.size inb).toLoadRect (h.unread X) = X := by
  rw [View.readAt_full]; exact h.read_unread X

section Pass1

variable (c : Dev nD) (i : grid0.Coords)
  (arg1 : Memref sig .tc .vmem S1x1x3200 .i32) (harg1 : arg1.IsWhole) (arg2 : Memref sig .tc .vmem S3200x128 .f32) (harg2 : arg2.IsWhole)
  (arg3 : Memref sig .tc .vmem S100x128 .f32) (harg3 : arg3.IsWhole) (arg4 : Memref sig .tc .vmem S100x128 .f32) (harg4 : arg4.IsWhole)
  (lab : Vec F S1x1x3200 .i32) (x : Vec F S3200x128 .f32)

set_option maxHeartbeats 1000000 in
/-- The first body at the first point: both accumulators are set to zero and one block is added. -/
theorem pass1_first (hc : atFirst i) (E : Set ℕ) (K : PUnit → sProp 𝕄) :
    iprop(owns (c : Thread nD τ) arg1 fullShare lab ∗ owns (c : Thread nD τ) arg2 fullShare x
        ∗ (∃ d, owns (c : Thread nD τ) arg3 fullShare d) ∗ (∃ d, owns (c : Thread nD τ) arg4 fullShare d)
        ∗ (iprop(owns (c : Thread nD τ) arg1 fullShare lab ∗ owns (c : Thread nD τ) arg2 fullShare x
            ∗ owns (c : Thread nD τ) arg3 fullShare (k0_pay4 lab x k0_pay2) ∗ owns (c : Thread nD τ) arg4 fullShare (k0_pay5 lab k0_pay3)) -∗ K ⟨⟩))
      ⊢ wp frame (wpE (defs₀ (F := F)) Variants.none c none) E (cc0__pass1 i arg1 harg1 arg2 harg2 arg3 harg3 arg4 harg4) K := by
  simp only [cc0__pass1_eq_skeleton]; unfold cc0__pass1_skel
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_full, load_whole harg1, load_whole harg2]
    sl_open_run
    rw [View.readCov_full]
  iexists _; isplitr
  swap; · iexact H3
  ipureintro
  rw [View.read_writes_full, load_whole harg1]
  sl_open_run
  rw [View.readCov_full]

set_option maxHeartbeats 1000000 in
/-- The first body at a later point: one block is added to each accumulator. -/
theorem pass1_later (s n : Vec F S100x128 .f32) (hc : ¬atFirst i) (E : Set ℕ) (K : PUnit → sProp 𝕄) :
    iprop(owns (c : Thread nD τ) arg1 fullShare lab ∗ owns (c : Thread nD τ) arg2 fullShare x
        ∗ owns (c : Thread nD τ) arg3 fullShare s ∗ owns (c : Thread nD τ) arg4 fullShare n
        ∗ (iprop(owns (c : Thread nD τ) arg1 fullShare lab ∗ owns (c : Thread nD τ) arg2 fullShare x
            ∗ owns (c : Thread nD τ) arg3 fullShare (k0_pay4 lab x s) ∗ owns (c : Thread nD τ) arg4 fullShare (k0_pay5 lab n)) -∗ K ⟨⟩))
      ⊢ wp frame (wpE (defs₀ (F := F)) Variants.none c none) E (cc0__pass1 i arg1 harg1 arg2 harg2 arg3 harg3 arg4 harg4) K := by
  simp only [cc0__pass1_eq_skeleton]; unfold cc0__pass1_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_full, load_whole harg1, load_whole harg2, load_whole harg3]
  iexists _; isplitr
  swap; · iexact H3
  ipureintro
  rw [View.read_writes_full, load_whole harg1, load_whole harg4]

end Pass1

section Pass2

variable (c : Dev nD) (i : grid1.Coords)
  (arg1 : Memref sig .tc .vmem S1x1x3200 .i32) (harg1 : arg1.IsWhole) (arg2 : Memref sig .tc .vmem S3200x128 .f32) (harg2 : arg2.IsWhole)
  (arg3 : Memref sig .tc .vmem S100x128 .f32) (harg3 : arg3.IsWhole) (arg4 : Memref sig .tc .vmem S100x128 .f32) (harg4 : arg4.IsWhole)
  (arg5 : Memref sig .tc .smem S1x1 .f32) (harg5 : arg5.IsWhole) (arg6 : Memref sig .tc .vmem S100x128 .f32) (harg6 : arg6.IsWhole)
  (arg7 : Memref sig .tc .smem S1 .f32) (harg7 : arg7.IsWhole)
  (lab : Vec F S1x1x3200 .i32) (x : Vec F S3200x128 .f32) (s n : Vec F S100x128 .f32)

set_option maxHeartbeats 1000000 in
/-- The second body at the first point: the centers are formed, the running total starts from zero and takes one
    block's distances; the result's buffer is left alone. -/
theorem pass2_first (hc : atFirst i) (hl : ¬k1_cond2 i = 1#1) (o : Vec F S1x1 .f32) (E : Set ℕ) (K : PUnit → sProp 𝕄) :
    iprop(owns (c : Thread nD τ) arg1 fullShare lab ∗ owns (c : Thread nD τ) arg2 fullShare x
        ∗ owns (c : Thread nD τ) arg3 fullShare s ∗ owns (c : Thread nD τ) arg4 fullShare n ∗ owns (c : Thread nD τ) arg5 fullShare o
        ∗ (∃ d, owns (c : Thread nD τ) arg6 fullShare d) ∗ (∃ d, owns (c : Thread nD τ) arg7 fullShare d)
        ∗ (iprop(owns (c : Thread nD τ) arg1 fullShare lab ∗ owns (c : Thread nD τ) arg2 fullShare x
            ∗ owns (c : Thread nD τ) arg3 fullShare s ∗ owns (c : Thread nD τ) arg4 fullShare n ∗ owns (c : Thread nD τ) arg5 fullShare o
            ∗ owns (c : Thread nD τ) arg6 fullShare (k1_pay1 s n)
            ∗ owns (c : Thread nD τ) arg7 fullShare (fun _ => k1_pay2 lab (k1_pay1 s n) x zero)) -∗ K ⟨⟩))
      ⊢ wp frame (wpE (defs₀ (F := F)) Variants.none c none) E (cc1__pass2 i arg1 harg1 arg2 harg2 arg3 harg3 arg4 harg4 arg5 harg5 arg6 harg6 arg7 harg7) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  obtain rfl := harg5.eq_unread hf4
  sl_exec (disch := first | sl_exact hc | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_open_run
    rw [View.read_writes_full, load_whole harg3, load_whole harg4]
  iexists _; isplitr
  swap; · iexact H6
  ipureintro
  sl_open_run
  rw [View.read_writes_full, load_whole harg1, load_whole harg2, View.readCov_full, load_whole harg3, load_whole harg4]
  rfl

set_option maxHeartbeats 1000000 in
/-- The second body at a point that is neither first nor last: the running total takes one block's distances. -/
theorem pass2_later (hc : ¬atFirst i) (hl : ¬k1_cond2 i = 1#1) (o : Vec F S1x1 .f32) (ctr : Vec F S100x128 .f32) (acc : F .f32)
    (E : Set ℕ) (K : PUnit → sProp 𝕄) :
    iprop(owns (c : Thread nD τ) arg1 fullShare lab ∗ owns (c : Thread nD τ) arg2 fullShare x
        ∗ owns (c : Thread nD τ) arg3 fullShare s ∗ owns (c : Thread nD τ) arg4 fullShare n ∗ owns (c : Thread nD τ) arg5 fullShare o
        ∗ owns (c : Thread nD τ) arg6 fullShare ctr ∗ owns (c : Thread nD τ) arg7 fullShare (fun _ => acc)
        ∗ (iprop(owns (c : Thread nD τ) arg1 fullShare lab ∗ owns (c : Thread nD τ) arg2 fullShare x
            ∗ owns (c : Thread nD τ) arg3 fullShare s ∗ owns (c : Thread nD τ) arg4 fullShare n ∗ owns (c : Thread nD τ) arg5 fullShare o
            ∗ owns (c : Thread nD τ) arg6 fullShare ctr
            ∗ owns (c : Thread nD τ) arg7 fullShare (fun _ => k1_pay2 lab ctr x acc)) -∗ K ⟨⟩))
      ⊢ wp frame (wpE (defs₀ (F := F)) Variants.none c none) E (cc1__pass2 i arg1 harg1 arg2 harg2 arg3 harg3 arg4 harg4 arg5 harg5 arg6 harg6 arg7 harg7) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | sl_exact hc | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  sl_open_run
  rw [View.read_writes_full, load_whole harg1, load_whole harg2, load_whole harg6, load_whole harg7]; rfl

set_option maxHeartbeats 1000000 in
/-- The second body at the last point: the running total takes the last block's distances, and the loss is stored. -/
theorem pass2_last (hc : ¬atFirst i) (hl : k1_cond2 i = 1#1) (ctr : Vec F S100x128 .f32) (acc : F .f32)
    (E : Set ℕ) (K : PUnit → sProp 𝕄) :
    iprop(owns (c : Thread nD τ) arg1 fullShare lab ∗ owns (c : Thread nD τ) arg2 fullShare x
        ∗ owns (c : Thread nD τ) arg3 fullShare s ∗ owns (c : Thread nD τ) arg4 fullShare n ∗ (∃ d, owns (c : Thread nD τ) arg5 fullShare d)
        ∗ owns (c : Thread nD τ) arg6 fullShare ctr ∗ owns (c : Thread nD τ) arg7 fullShare (fun _ => acc)
        ∗ (iprop(owns (c : Thread nD τ) arg1 fullShare lab ∗ owns (c : Thread nD τ) arg2 fullShare x
            ∗ owns (c : Thread nD τ) arg3 fullShare s ∗ owns (c : Thread nD τ) arg4 fullShare n
            ∗ owns (c : Thread nD τ) arg5 fullShare (fun _ => k1_pay3 ctr (k1_pay2 lab ctr x acc))
            ∗ owns (c : Thread nD τ) arg6 fullShare ctr
            ∗ owns (c : Thread nD τ) arg7 fullShare (fun _ => k1_pay2 lab ctr x acc)) -∗ K ⟨⟩))
      ⊢ wp frame (wpE (defs₀ (F := F)) Variants.none c none) E (cc1__pass2 i arg1 harg1 arg2 harg2 arg3 harg3 arg4 harg4 arg5 harg5 arg6 harg6 arg7 harg7) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3
  obtain rfl := harg6.eq_unread hf5; obtain rfl := harg7.eq_unread hf6
  sl_exec (disch := first | sl_exact hc | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_open_run
    rw [View.read_writes_full, load_whole harg1, load_whole harg2, load_whole harg6, load_whole harg7]; rfl
  isplitl [H5]
  · iexists _; isplitr; · ipureintro; exact harg6.read_unread _
    iexact H5
  iexists _; isplitr
  swap; · iexact H6
  ipureintro
  sl_open_run
  rw [View.read_writes_full, load_whole harg1, load_whole harg2, load_whole harg6, load_whole harg7]; rfl

end Pass2

end Cert.KernelIdeal.Run
-- ==== Proof.KernelIdeal.Call0.lean ====
/-
  The first call on the values its region is entered with: the blocks of labels and of rows, the two accumulators after
  every point, the proof data of the pipeline, and the body's obligation at every point.
-/
module

public import proofs.«01_k».proof.Proof.KernelIdeal.Steps

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (V : Dev nD → Valuation τ sig (Elt F))

/-- The block of window `w` of the first call at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The sums of the rows of each cluster over the points up to `n`. -/
def sumsAt (c : Dev nD) : (n : ℕ) → n < cfg0.N → Vec F S100x128 .f32
  | 0, h => k0_pay4 (blk0 V c 0 ⟨0, h⟩) (blk0 V c 1 ⟨0, h⟩) k0_pay2
  | n + 1, h => k0_pay4 (blk0 V c 0 ⟨n + 1, h⟩) (blk0 V c 1 ⟨n + 1, h⟩) (sumsAt c n (Nat.lt_of_succ_lt h))

/-- The number of rows of each cluster over the points up to `n`, repeated along the columns. -/
def countsAt (c : Dev nD) : (n : ℕ) → n < cfg0.N → Vec F S100x128 .f32
  | 0, h => k0_pay5 (blk0 V c 0 ⟨0, h⟩) k0_pay3
  | n + 1, h => k0_pay5 (blk0 V c 0 ⟨n + 1, h⟩) (countsAt c n (Nat.lt_of_succ_lt h))

/-- The proof data of the first call: inputs are left at their blocks, the outputs at the accumulated values. -/
def dat0 (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => sumsAt V c t.val t.isLt
    | ⟨3, _⟩ => countsAt V c t.val t.isLt
  Φ _ := Pipeline.ΦA spec0 c
  q _ := fullShare
  owed _ := 0

/-- The first branch of the first body is taken at the first point only. -/
theorem atFirst_iff : ∀ t : Fin cfg0.N, atFirst (grid0.coords t) ↔ t.val = 0 :=
  (fun t => by
    have ht : t.val < 100 := Nat.lt_of_lt_of_eq t.isLt N_0
    have e0 : (grid0.coords t 0).val = t.val / 1 % 100 := Pipeline.Grid.coords_val t 0 (by decide) rfl
    simp only [atFirst, e0]
    word_cmp
   : ∀ t : Fin grid0.N, atFirst (grid0.coords t) ↔ t.val = 0)

/-- The staging buffer of input 0 holds its block at every point. -/
theorem before0_0 (c : Dev nD) (t : Fin cfg0.N) (d) : (dat0 V c).before 0 t d = blk0 V c 0 t :=
  ((dat0 V c).before_in_eq_fetched 0 rfl (fun _ => rfl) (fun _ _ _ => rfl) (fun t => by dsimp only [dat0]; unfold Dat.blockOf blk0; dsimp only [dat0]; try rfl) t d).trans
    (by unfold Dat.fetched Dat.blockOf blk0; dsimp only [dat0]; try rfl)
/-- The staging buffer of input 1 holds its block at every point. -/
theorem before0_1 (c : Dev nD) (t : Fin cfg0.N) (d) : (dat0 V c).before 1 t d = blk0 V c 1 t :=
  ((dat0 V c).before_in_eq_fetched 1 rfl (fun _ => rfl) (fun _ _ _ => rfl) (fun t => by dsimp only [dat0]; unfold Dat.blockOf blk0; dsimp only [dat0]; try rfl) t d).trans
    (by unfold Dat.fetched Dat.blockOf blk0; dsimp only [dat0]; try rfl)
/-- After the first point the staging buffer of the sums holds what the point before left. -/
theorem before0_2 (c : Dev nD) (n : ℕ) (h : n + 1 < cfg0.N) (d) : (dat0 V c).before 2 ⟨n + 1, h⟩ d = sumsAt V c n (Nat.lt_of_succ_lt h) := by
  have hN : n + 1 < 100 := lt_of_lt_of_eq h (show cfg0.N = 100 from N_0)
  rw [Dat.before_out_kept _ 2 rfl ⟨n + 1, h⟩ (by simp) (Bool.eq_false_iff.mpr fun h => by have := (flush0_2 _).mp h; dsimp only at this; omega)
    (fun _ => rfl) (fun _ _ => rfl)]
  dsimp only [dat0]; rfl
/-- After the first point the staging buffer of the counts holds what the point before left. -/
theorem before0_3 (c : Dev nD) (n : ℕ) (h : n + 1 < cfg0.N) (d) : (dat0 V c).before 3 ⟨n + 1, h⟩ d = countsAt V c n (Nat.lt_of_succ_lt h) := by
  have hN : n + 1 < 100 := lt_of_lt_of_eq h (show cfg0.N = 100 from N_0)
  rw [Dat.before_out_kept _ 3 rfl ⟨n + 1, h⟩ (by simp) (Bool.eq_false_iff.mpr fun h => by have := (flush0_3 _).mp h; dsimp only at this; omega)
    (fun _ => rfl) (fun _ _ => rfl)]
  dsimp only [dat0]; rfl

/-- What the first body is entered with at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it leaves. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

/-- No window of the first call is ever idle: what a point leaves in a staging buffer is the proof data's. -/
theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact
  rw [show cfg0.idle w (cfg0.grid.coords t) = false from rfl]

set_option maxHeartbeats 1000000 in
/-- The first body at every point. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, leaves0]
  rw [show (dat0 V c).owesAt () t.succ = (dat0 V c).owesAt () t.castSucc from rfl,
    show (dat0 V c).Φ t.succ = (dat0 V c).Φ t.castSucc from rfl]
  obtain ⟨n, hn⟩ := t
  cases n with
  | zero =>
    iintro ⟨HΦ, Ho, ⟨%d0, H0⟩, ⟨%d1, H1⟩, ⟨%d2, H2⟩, ⟨%d3, H3⟩⟩
    iapply (pass1_first c (grid0.coords ⟨0, hn⟩) _ _ _ _ _ _ _ _ (blk0 V c 0 ⟨0, hn⟩) (blk0 V c 1 ⟨0, hn⟩) ((atFirst_iff ⟨0, hn⟩).mpr rfl) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  | succ n =>
    simp only [before0_2, before0_3]
    iintro ⟨HΦ, Ho, ⟨%d0, H0⟩, ⟨%d1, H1⟩, ⟨%d2, H2⟩, ⟨%d3, H3⟩⟩
    iapply (pass1_later c (grid0.coords ⟨n + 1, hn⟩) _ _ _ _ _ _ _ _ (blk0 V c 0 ⟨n + 1, hn⟩) (blk0 V c 1 ⟨n + 1, hn⟩)
      (sumsAt V c n (Nat.lt_of_succ_lt hn)) (countsAt V c n (Nat.lt_of_succ_lt hn))
      (fun h => Nat.succ_ne_zero n ((atFirst_iff ⟨n + 1, hn⟩).mp h)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body's obligation of the first call. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body0 V c t) rfl .rfl fun _ => .rfl

end Cert.KernelIdeal.Run
-- ==== Proof.KernelIdeal.Call1.lean ====
/-
  The second call on the values its region is entered with: the centers, the running total of distances after every
  point, the loss of the last point, the proof data of the pipeline, and the body's obligation at every point.
-/
module

public import proofs.«01_k».proof.Proof.KernelIdeal.Steps

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (V : Dev nD → Valuation τ sig (Elt F))

/-- The block of window `w` of the second call at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The second call has a first point. -/
theorem pos1 : 0 < cfg1.N := (show cfg1.N = 100 from N_1) ▸ (by decide : 0 < 100)

/-- The centers, formed at the first point. -/
def ctrs (c : Dev nD) : Vec F S100x128 .f32 := k1_pay1 (blk1 V c 2 ⟨0, pos1⟩) (blk1 V c 3 ⟨0, pos1⟩)

/-- The sum of the rows' distances to their centers over the points up to `n`. -/
def accAt (c : Dev nD) : (n : ℕ) → n < cfg1.N → F .f32
  | 0, h => k1_pay2 (blk1 V c 0 ⟨0, h⟩) (ctrs V c) (blk1 V c 1 ⟨0, h⟩) zero
  | n + 1, h => k1_pay2 (blk1 V c 0 ⟨n + 1, h⟩) (ctrs V c) (blk1 V c 1 ⟨n + 1, h⟩) (accAt c n (Nat.lt_of_succ_lt h))

/-- The scoped buffers of the first call, at some contents: the second call leaves them alone. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f))

/-- Before the first point both scratch buffers hold something; -/
def inv1_start (c : Dev nD) : sProp 𝕄 :=
  iprop((∃ d, owns (c : Thread nD τ) (Memref.whole cc1_scratch0) fullShare d) ∗ (∃ d, owns (c : Thread nD τ) (Memref.whole cc1_scratch1) fullShare d)
    ∗ others (F := F) c ∗ ∃ r, prngReg c r)

/-- after point `n` they hold the centers and the running total. -/
def inv1 (c : Dev nD) : (n : ℕ) → n ≤ cfg1.N → sProp 𝕄
  | 0, _ => inv1_start (F := F) c
  | n + 1, h => iprop(owns (c : Thread nD τ) (Memref.whole cc1_scratch0) fullShare (ctrs V c)
      ∗ owns (c : Thread nD τ) (Memref.whole cc1_scratch1) fullShare (fun _ => accAt V c n h) ∗ others (F := F) c ∗ ∃ r, prngReg c r)

/-- What the launch hands the region is the state before the first point. -/
theorem start_eq (c : Dev nD) :
    (Pipeline.ΦA spec1 c : sProp 𝕄) ⊢ inv1_start (F := F) c := by
  unfold Pipeline.ΦA inv1_start others
  rw [scopedRest1_eq]
  simp only [owns_whole]
  iintro ⟨⟨Ha, Hb, Hc, Hd, He, Hf, HS, HT⟩, Hg⟩
  isplitl [HS]; · iexact HS
  isplitl [HT]; · iexact HT
  isplitr [Hg]
  · isplitl [Ha]; · iexact Ha
    isplitl [Hb]; · iexact Hb
    isplitl [Hc]; · iexact Hc
    isplitl [Hd]; · iexact Hd
    isplitl [He]; · iexact He
    iexact Hf
  iexact Hg

/-- After any number of points the region can give back what the launch handed it. -/
theorem finish (c : Dev nD) (n : ℕ) (h : n + 1 ≤ cfg1.N) : inv1 V c (n + 1) h ⊢ (Pipeline.ΦA spec1 c : sProp 𝕄) := by
  unfold inv1 Pipeline.ΦA others
  rw [scopedRest1_eq]
  simp only [owns_whole]
  iintro ⟨HS, HT, ⟨Ha, Hb, Hc, Hd, He, Hf⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [HS]; · iexists _; iexact HS
    iexists _; iexact HT
  iexact Hg

/-- The proof data of the second call: inputs are left at their blocks, the result at the loss of the total so far. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => fun _ => k1_pay3 (ctrs V c) (accAt V c t.val t.isLt)
  Φ t := inv1 V c t.val (Nat.le_of_lt_succ t.isLt)
  q _ := fullShare
  owed _ := 0

/-- The first branch of the second body is taken at the first point only. -/
theorem atFirst1_iff : ∀ t : Fin cfg1.N, atFirst (grid1.coords t) ↔ t.val = 0 :=
  (fun t => by
    have ht : t.val < 100 := Nat.lt_of_lt_of_eq t.isLt N_1
    have e0 : (grid1.coords t 0).val = t.val / 1 % 100 := Pipeline.Grid.coords_val t 0 (by decide) rfl
    simp only [atFirst, e0]
    word_cmp
   : ∀ t : Fin grid1.N, atFirst (grid1.coords t) ↔ t.val = 0)

/-- The last branch of the second body is taken at the last point only. -/
theorem atLast_iff : ∀ t : Fin cfg1.N, k1_cond2 (grid1.coords t) = 1#1 ↔ t.val = 99 :=
  (fun t => by
    have ht : t.val < 100 := Nat.lt_of_lt_of_eq t.isLt N_1
    have e0 : (grid1.coords t 0).val = t.val / 1 % 100 := Pipeline.Grid.coords_val t 0 (by decide) rfl
    simp only [k1_cond2, e0]
    word_cmp
   : ∀ t : Fin grid1.N, k1_cond2 (grid1.coords t) = 1#1 ↔ t.val = 99)

/-- The result's window is idle, and not written back, at every point but the last; -/
theorem idle1_4 : ∀ t : Fin cfg1.N, ¬t.val = 99 → cfg1.idle 4 (grid1.coords t) = true ∧ (cfg1.win 4).flush t = false := by decide +kernel
/-- at the last point it is in use. -/
theorem live1_4 : ∀ t : Fin cfg1.N, t.val = 99 → cfg1.idle 4 (grid1.coords t) = false := by decide +kernel

/-- The staging buffer of input 0 holds its block at every point. -/
theorem before1_0 (c : Dev nD) (t : Fin cfg1.N) (d) : (dat1 V c).before 0 t d = blk1 V c 0 t :=
  ((dat1 V c).before_in_eq_fetched 0 rfl (fun _ => rfl) (fun _ _ _ => rfl) (fun t => by dsimp only [dat1]; unfold Dat.blockOf blk1; dsimp only [dat1]; try rfl) t d).trans
    (by unfold Dat.fetched Dat.blockOf blk1; dsimp only [dat1]; try rfl)
/-- The staging buffer of input 1 holds its block at every point. -/
theorem before1_1 (c : Dev nD) (t : Fin cfg1.N) (d) : (dat1 V c).before 1 t d = blk1 V c 1 t :=
  ((dat1 V c).before_in_eq_fetched 1 rfl (fun _ => rfl) (fun _ _ _ => rfl) (fun t => by dsimp only [dat1]; unfold Dat.blockOf blk1; dsimp only [dat1]; try rfl) t d).trans
    (by unfold Dat.fetched Dat.blockOf blk1; dsimp only [dat1]; try rfl)
/-- The staging buffer of input 2 holds its block at every point. -/
theorem before1_2 (c : Dev nD) (t : Fin cfg1.N) (d) : (dat1 V c).before 2 t d = blk1 V c 2 t :=
  ((dat1 V c).before_in_eq_fetched 2 rfl (fun _ => rfl) (fun _ _ _ => rfl) (fun t => by dsimp only [dat1]; unfold Dat.blockOf blk1; dsimp only [dat1]; try rfl) t d).trans
    (by unfold Dat.fetched Dat.blockOf blk1; dsimp only [dat1]; try rfl)
/-- The staging buffer of input 3 holds its block at every point. -/
theorem before1_3 (c : Dev nD) (t : Fin cfg1.N) (d) : (dat1 V c).before 3 t d = blk1 V c 3 t :=
  ((dat1 V c).before_in_eq_fetched 3 rfl (fun _ => rfl) (fun _ _ _ => rfl) (fun t => by dsimp only [dat1]; unfold Dat.blockOf blk1; dsimp only [dat1]; try rfl) t d).trans
    (by unfold Dat.fetched Dat.blockOf blk1; dsimp only [dat1]; try rfl)

/-- What the second body is entered with at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it leaves. -/
def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

/-- What a point leaves in a staging buffer whose window is in use there is the proof data's. -/
theorem leaves1 (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact
  rw [h]

set_option maxHeartbeats 2000000 in
/-- The second body at every point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [leaves1 V c 0 t rfl, leaves1 V c 1 t rfl, leaves1 V c 2 t rfl, leaves1 V c 3 t rfl,
    show (dat1 V c).owesAt () t.succ = (dat1 V c).owesAt () t.castSucc from rfl,
    show (dat1 V c).Φ t.succ = inv1 V c (t.val + 1) t.isLt from rfl,
    show (dat1 V c).Φ t.castSucc = inv1 V c t.val (Nat.le_of_lt t.isLt) from by
      dsimp only [dat1]; exact Pipeline.Dat.Φ_castSucc (inv1 V c) t]
  obtain ⟨n, hn⟩ := t
  cases n with
  | zero =>
    rw [Dat.leavesExact_idle (dat1 V c) 4 ⟨0, hn⟩ (idle1_4 ⟨0, hn⟩ (by simp)).1 (idle1_4 ⟨0, hn⟩ (by simp)).2]
    unfold inv1 inv1_start
    iintro ⟨⟨HS, HT, Hr, Hg⟩, Ho, ⟨%d0, H0⟩, ⟨%d1, H1⟩, ⟨%d2, H2⟩, ⟨%d3, H3⟩, ⟨%d4, H4⟩⟩
    iapply (pass2_first c (grid1.coords ⟨0, hn⟩) _ _ _ _ _ _ _ _ _ _ _ (Memref.isWhole_whole _) _ (Memref.isWhole_whole _)
      (blk1 V c 0 ⟨0, hn⟩) (blk1 V c 1 ⟨0, hn⟩) (blk1 V c 2 ⟨0, hn⟩) (blk1 V c 3 ⟨0, hn⟩)
      ((atFirst1_iff ⟨0, hn⟩).mpr rfl) (fun h => by have := (atLast_iff ⟨0, hn⟩).mp h; simp at this) _ Set.univ _)
    isplitl [H0]; · iexact H0
    isplitl [H1]; · iexact H1
    isplitl [H2]; · iexact H2
    isplitl [H3]; · iexact H3
    isplitl [H4]; · iexact H4
    isplitl [HS]; · iexact HS
    isplitl [HT]; · iexact HT
    iintro ⟨H0, H1, H2, H3, H4, HS, HT⟩
    isplitl [HS HT Hr Hg]
    · isplitl [HS]; · iexact HS
      isplitl [HT]; · iexact HT
      isplitl [Hr]; · iexact Hr
      iexact Hg
    isplitl [Ho]; · iexact Ho
    isplitl [H0]; · iexact H0
    isplitl [H1]; · iexact H1
    isplitl [H2]; · iexact H2
    isplitl [H3]; · iexact H3
    iexists _; iexact H4
  | succ n =>
    have hf : ¬atFirst (grid1.coords ⟨n + 1, hn⟩) := fun h => Nat.succ_ne_zero n ((atFirst1_iff ⟨n + 1, hn⟩).mp h)
    by_cases hl : n + 1 = 99
    · rw [leaves1 V c 4 ⟨n + 1, hn⟩ (live1_4 ⟨n + 1, hn⟩ hl)]
      unfold inv1
      iintro ⟨⟨HS, HT, Hr, Hg⟩, Ho, ⟨%d0, H0⟩, ⟨%d1, H1⟩, ⟨%d2, H2⟩, ⟨%d3, H3⟩, ⟨%d4, H4⟩⟩
      iapply (pass2_last c (grid1.coords ⟨n + 1, hn⟩) _ _ _ _ _ _ _ _ _ _ _ (Memref.isWhole_whole _) _ (Memref.isWhole_whole _)
        (blk1 V c 0 ⟨n + 1, hn⟩) (blk1 V c 1 ⟨n + 1, hn⟩) (blk1 V c 2 ⟨n + 1, hn⟩) (blk1 V c 3 ⟨n + 1, hn⟩)
        hf ((atLast_iff ⟨n + 1, hn⟩).mpr hl) (ctrs V c) (accAt V c n (Nat.lt_of_succ_lt hn)) Set.univ _)
      isplitl [H0]; · iexact H0
      isplitl [H1]; · iexact H1
      isplitl [H2]; · iexact H2
      isplitl [H3]; · iexact H3
      isplitl [H4]; · iexists _; iexact H4
      isplitl [HS]; · iexact HS
      isplitl [HT]; · iexact HT
      iintro ⟨H0, H1, H2, H3, H4, HS, HT⟩
      isplitl [HS HT Hr Hg]
      · isplitl [HS]; · iexact HS
        isplitl [HT]; · iexact HT
        isplitl [Hr]; · iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 ⟨n + 1, hn⟩ (idle1_4 ⟨n + 1, hn⟩ hl).1 (idle1_4 ⟨n + 1, hn⟩ hl).2]
      unfold inv1
      iintro ⟨⟨HS, HT, Hr, Hg⟩, Ho, ⟨%d0, H0⟩, ⟨%d1, H1⟩, ⟨%d2, H2⟩, ⟨%d3, H3⟩, ⟨%d4, H4⟩⟩
      iapply (pass2_later c (grid1.coords ⟨n + 1, hn⟩) _ _ _ _ _ _ _ _ _ _ _ (Memref.isWhole_whole _) _ (Memref.isWhole_whole _)
        (blk1 V c 0 ⟨n + 1, hn⟩) (blk1 V c 1 ⟨n + 1, hn⟩) (blk1 V c 2 ⟨n + 1, hn⟩) (blk1 V c 3 ⟨n + 1, hn⟩)
        hf (fun h => hl ((atLast_iff ⟨n + 1, hn⟩).mp h)) _ (ctrs V c) (accAt V c n (Nat.lt_of_succ_lt hn)) Set.univ _)
      isplitl [H0]; · iexact H0
      isplitl [H1]; · iexact H1
      isplitl [H2]; · iexact H2
      isplitl [H3]; · iexact H3
      isplitl [H4]; · iexact H4
      isplitl [HS]; · iexact HS
      isplitl [HT]; · iexact HT
      iintro ⟨H0, H1, H2, H3, H4, HS, HT⟩
      isplitl [HS HT Hr Hg]
      · isplitl [HS]; · iexact HS
        isplitl [HT]; · iexact HT
        isplitl [Hr]; · iexact Hr
        iexact Hg
      isplitl [Ho]; · iexact Ho
      isplitl [H0]; · iexact H0
      isplitl [H1]; · iexact H1
      isplitl [H2]; · iexact H2
      isplitl [H3]; · iexact H3
      iexists _; iexact H4

/-- The body's obligation of the second call. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (body1 V c t) rfl .rfl fun _ => .rfl

end Cert.KernelIdeal.Run
-- ==== Proof.KernelIdeal.Whole.lean ====
/-
  The two calls in @main: what the device's buffers hold between them, each call's region as a segment of @main, and the
  run of the whole program with the result's buffer and the arguments' read off its end.
-/
module

public import proofs.«01_k».proof.Proof.KernelIdeal.Call0
public import proofs.«01_k».proof.Proof.KernelIdeal.Call1
public import proofs.«01_k».proof.Proof.Gen.KernelIdeal.Regions
public import Idealize.ShloMosaic.Lib.Pipeline.RegionArrays

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Rounds
open Idealize.ShloMosaic.Pipeline (Dat Cfg Window BodyObligation RegionSeg Seg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers between the calls -/

/-- The buffers after the first call: the sums and the counts written, the rest as the reshape left it. -/
def mid (c : Dev nD) : Valuation τ sig (Elt F) :=
  Function.update (Function.update (V1 m c) main_v1_0 ((dat0 (V1 m) c).arrAt 2 cfg0.N)) main_v1_1 ((dat0 (V1 m) c).arrAt 3 cfg0.N)

/-- The buffers after the second call: the loss written. -/
def fin (c : Dev nD) : Valuation τ sig (Elt F) := Function.update (mid m c) main_v2 ((dat1 (mid m) c).arrAt 4 cfg1.N)

/-- What the calls leave in the buffers they write. -/
def outs : Outs (F := F) := fun k r c => match k with
  | 2 => mid m c r
  | _ => fin m c r

/-- Apart from the sums and the counts, `mid` is what the reshape left; -/
theorem mid_of (c : Dev nD) (b : DevRef τ sig) (h0 : b ≠ Proc.devRef .tc main_v1_0) (h1 : b ≠ Proc.devRef .tc main_v1_1) : mid m c b = V1 m c b := by
  unfold mid; rw [Function.update_of_ne h1, Function.update_of_ne h0]
/-- at the sums it is what the first call leaves there, -/
theorem mid_sums (c : Dev nD) : mid m c (Proc.devRef .tc main_v1_0) = (dat0 (V1 m) c).arrAt 2 cfg0.N := by
  unfold mid; rw [Function.update_of_ne (by decide)]; exact Function.update_self ..
/-- and so at the counts. -/
theorem mid_counts (c : Dev nD) : mid m c (Proc.devRef .tc main_v1_1) = (dat0 (V1 m) c).arrAt 3 cfg0.N := by
  unfold mid; exact Function.update_self ..
/-- Apart from the loss, `fin` is `mid`; -/
theorem fin_of (c : Dev nD) (b : DevRef τ sig) (h : b ≠ Proc.devRef .tc main_v2) : fin m c b = mid m c b := by
  unfold fin; exact Function.update_of_ne h ..
/-- at the loss it is what the second call leaves there. -/
theorem fin_loss (c : Dev nD) : fin m c (Proc.devRef .tc main_v2) = (dat1 (mid m) c).arrAt 4 cfg1.N := by
  unfold fin; exact Function.update_self ..

/-- The valuation after the first call is `mid`. -/
theorem V2_eq (c : Dev nD) : V2 m (outs m) c = mid m c := by
  funext b
  by_cases h1 : b = Proc.devRef .tc main_v1_1
  · subst h1; simp [V2, outs]
  · by_cases h0 : b = Proc.devRef .tc main_v1_0
    · subst h0; simp [V2, outs, mid, Function.update_of_ne h1]
    · simp [V2, mid, Function.update_of_ne h1, Function.update_of_ne h0]

/-- The valuation after the second call is `fin`. -/
theorem V3_eq (c : Dev nD) : V3 m (outs m) c = fin m c := by
  funext b
  by_cases h2 : b = Proc.devRef .tc main_v2
  · subst h2; simp [V3, outs]
  · rw [fin_of m c b h2, ← V2_eq]; exact Function.update_of_ne h2 ..

/-! ## The regions -/

/-- The calls' proof data, each on the buffers its region is entered with. -/
def pdats : (p : Fin 2) → (c : Dev nD) → Dat τ (Elt F) Unit ℕ (UR sig nD τ) ℕ (cfgs p) c
  | 0, c => dat0 (V1 m) c
  | 1, c => dat1 (mid m) c

/-- Every cell of a TensorCore takes the one index, -/
def cellIx (g : GSem nD τ sig) : Finset Unit := if g.1.2 = .tc then {()} else ∅

/-- and the calls take the pairs' levels all at zero. -/
def cellLv (_ : GSem nD τ sig) (_ : Unit) : ℕ := 0

/-- With no debt and one level, every staging wait may be made. -/
theorem levels (p : Fin 2) : Pipeline.LevelCut (pcfgs (F := F)) adm () cellIx cellLv p (fun _ => 0) (fun _ => 0) where
  hι c w s := by simp [cellIx]
  hιb _ _ _ := le_refl _
  hD c g i h := absurd h (lt_irrefl _)

/-- Beside the buffers a core keeps its generator's register and owes nothing. -/
def beside (c : Dev nD) : sProp 𝕄 := iprop((∃ r, prngReg c r) ∗ ∃ W, owes (c : Thread nD τ) 0 W)

/-- What the first call leaves in each window's array. -/
theorem exit0 (c : Dev nD) : ∀ w : Fin cfg0.W, (dat0 (V1 m) c).arrAt w cfg0.N = mid m c (Proc.devRef .tc (Pipeline.arrRef spec0 w))
  | 0 => ((dat0 (V1 m) c).arrAt_in 0 rfl _).trans (mid_of m c (Proc.devRef .tc main_v0) (by decide) (by decide)).symm
  | 1 => ((dat0 (V1 m) c).arrAt_in 1 rfl _).trans (mid_of m c (Proc.devRef .tc main_arg0) (by decide) (by decide)).symm
  | 2 => (mid_sums m c).symm
  | 3 => (mid_counts m c).symm
  | ⟨_ + 4, h⟩ => absurd h (Nat.not_lt.2 (Nat.le_add_left _ _))

/-- What the second call leaves in each window's array. -/
theorem exit1 (c : Dev nD) : ∀ w : Fin cfg1.W, (dat1 (mid m) c).arrAt w cfg1.N = fin m c (Proc.devRef .tc (Pipeline.arrRef spec1 w))
  | 0 => ((dat1 (mid m) c).arrAt_in 0 rfl _).trans (fin_of m c (Proc.devRef .tc main_v0) (by decide)).symm
  | 1 => ((dat1 (mid m) c).arrAt_in 1 rfl _).trans (fin_of m c (Proc.devRef .tc main_arg0) (by decide)).symm
  | 2 => ((dat1 (mid m) c).arrAt_in 2 rfl _).trans (fin_of m c (Proc.devRef .tc main_v1_0) (by decide)).symm
  | 3 => ((dat1 (mid m) c).arrAt_in 3 rfl _).trans (fin_of m c (Proc.devRef .tc main_v1_1) (by decide)).symm
  | 4 => (fin_loss m c).symm
  | ⟨_ + 5, h⟩ => absurd h (Nat.not_lt.2 (Nat.le_add_left _ _))

/-- The unscoped buffers outside the first call's arrays, at a valuation. -/
def rest0 (c : Dev nD) (W : Valuation τ sig (Elt F)) : sProp 𝕄 :=
  StableHlo.held (c : Thread nD τ) (Pipeline.ucRefs τ sig \ Pipeline.arrRefs spec0) W

/-- The unscoped buffers outside the second call's arrays, at a valuation. -/
def rest1 (c : Dev nD) (W : Valuation τ sig (Elt F)) : sProp 𝕄 :=
  StableHlo.held (c : Thread nD τ) (Pipeline.ucRefs τ sig \ Pipeline.arrRefs spec1) W

/-- Outside its windows' arrays the first call changes nothing. -/
theorem rest0_eq (c : Dev nD) : rest0 c (V1 m c) = rest0 c (mid m c) :=
  StableHlo.held_congr _ fun b hb => (mid_of m c b
    (fun e => (Finset.mem_sdiff.mp hb).2 (e ▸ by decide)) (fun e => (Finset.mem_sdiff.mp hb).2 (e ▸ by decide))).symm

/-- Outside its windows' arrays the second call changes nothing. -/
theorem rest1_eq (c : Dev nD) : rest1 c (mid m c) = rest1 c (fin m c) :=
  StableHlo.held_congr _ fun b hb => (fin_of m c b (fun e => (Finset.mem_sdiff.mp hb).2 (e ▸ by decide))).symm

/-- The unscoped buffers are the first call's arrays and the rest; -/
theorem split0 (c : Dev nD) (W : Valuation τ sig (Elt F)) :
    (StableHlo.held (c : Thread nD τ) (Pipeline.ucRefs τ sig) W : sProp 𝕄)
      = iprop(StableHlo.held (c : Thread nD τ) (Pipeline.arrRefs spec0) W ∗ rest0 c W) :=
  StableHlo.held_sub_split (c : Thread nD τ) (Pipeline.arrRefs_sub_ucRefs spec0 (by decide)) W
/-- and so for the second. -/
theorem split1 (c : Dev nD) (W : Valuation τ sig (Elt F)) :
    (StableHlo.held (c : Thread nD τ) (Pipeline.ucRefs τ sig) W : sProp 𝕄)
      = iprop(StableHlo.held (c : Thread nD τ) (Pipeline.arrRefs spec1) W ∗ rest1 c W) :=
  StableHlo.held_sub_split (c : Thread nD τ) (Pipeline.arrRefs_sub_ucRefs spec1 (by decide)) W

/-- Reordering: a core's buffers beside what it keeps is what a region's record states, -/
theorem entering {A B C D : sProp 𝕄} : iprop((A ∗ B) ∗ C ∗ D) ⊢ iprop(A ∗ C ∗ B ∗ D) := by
  iintro ⟨⟨Ha, Hb⟩, Hc, Hd⟩
  isplitl [Ha]; · iexact Ha
  isplitl [Hc]; · iexact Hc
  isplitl [Hb]; · iexact Hb
  iexact Hd
/-- and back. -/
theorem leaving {A B C D : sProp 𝕄} : iprop(A ∗ C ∗ B ∗ D) ⊢ iprop((A ∗ B) ∗ C ∗ D) := by
  iintro ⟨Ha, Hc, Hb, Hd⟩
  isplitr [Hc Hd]
  · isplitl [Ha]; · iexact Ha
    iexact Hb
  isplitl [Hc]; · iexact Hc
  iexact Hd

/-- The first call's region. -/
def region0 : RegionSeg (pcfgs (F := F)) adm (pdats m) () defs₀ Variants.none cellIx cellLv 0 :=
  RegionSeg.ofHeld pcfgs adm (pdats m) () defs₀ Variants.none cellIx cellLv 0 (fun _ => 0)
    (fun c => iprop(∃ r, prngReg c r)) (fun c => iprop(∃ r, prngReg c r)) launch0.toP rfl
    (fun c => (obligation0 (V1 m) c).loose) (fun _ _ => rfl) (fun _ => rfl) (fun c => (dat0 (V1 m) c).share_full fun _ => rfl)
    (fun _ => .rfl) (fun _ => .rfl) (fun _ => 0) (levels 0)
    (fun c => rest0 c (V1 m c))
    (V1 m) (mid m) (fun _ _ => rfl) (exit0 m)

/-- The second call's region. -/
def region1 : RegionSeg (pcfgs (F := F)) adm (pdats m) () defs₀ Variants.none cellIx cellLv 1 :=
  RegionSeg.ofHeld pcfgs adm (pdats m) () defs₀ Variants.none cellIx cellLv 1 (fun _ => 0)
    (fun c => iprop(∃ r, prngReg c r)) (fun c => iprop(∃ r, prngReg c r)) launch1.toP rfl
    (fun c => (obligation1 (mid m) c).loose) (fun _ _ => rfl) (fun _ => rfl) (fun c => (dat1 (mid m) c).share_full fun _ => rfl)
    (fun c => start_eq c) (fun c => finish (mid m) c 99 (by rw [show cfg1.N = 100 from N_1])) (fun _ => 0) (levels 1)
    (fun c => rest1 c (mid m c))
    (mid m) (fin m) (fun _ _ => rfl) (exit1 m)

/-- The buffers after the reshape are what the first region is entered with; -/
theorem enter0 (c : Dev nD) :
    iprop(StableHlo.held (c : Thread nD τ) (Pipeline.ucRefs τ sig) (V1 m c) ∗ beside (F := F) c) ⊢ (region0 m).pre c := by
  rw [split0]; exact entering

/-- those it leaves are `mid`; -/
theorem leave0 (c : Dev nD) :
    (region0 m).post c ⊢ iprop(StableHlo.held (c : Thread nD τ) (Pipeline.ucRefs τ sig) (V2 m (outs m) c) ∗ beside (F := F) c) := by
  rw [V2_eq, split0, ← rest0_eq]; exact leaving

/-- the second region is entered with those, -/
theorem enter1 (c : Dev nD) :
    iprop(StableHlo.held (c : Thread nD τ) (Pipeline.ucRefs τ sig) (V2 m (outs m) c) ∗ beside (F := F) c) ⊢ (region1 m).pre c := by
  rw [V2_eq, split1]; exact entering

/-- and leaves `fin`. -/
theorem leave1 (c : Dev nD) :
    (region1 m).post c ⊢ iprop(StableHlo.held (c : Thread nD τ) (Pipeline.ucRefs τ sig) (V3 m (outs m) c) ∗ beside (F := F) c) := by
  rw [V3_eq, split1, ← rest1_eq]; exact leaving

/-! ## The run -/

/-- A core is launched with its buffers at the initial contents, owing nothing. -/
theorem atLaunch (ρ : Dev nD → PrngReg) (c : Dev nD) :
    (iprop(unscopedBufs c (fun b => m ((c.tc : Thread nD τ).loc b)) ∗ unscopedSems0 c
        ∗ owes (c.tc : Thread nD τ) 0 ∅ ∗ Pipeline.launchCred (fun _ => 0) c ∗ prngReg c (ρ c) ∗ emp) : sProp 𝕄)
      ⊢ iprop(StableHlo.held (c : Thread nD τ) (Pipeline.ucRefs τ sig) (V0 m c) ∗ beside (F := F) c) := by
  rw [← Pipeline.unscopedBufs_held (Ix := Unit) (Name := ℕ) (U := UR sig nD τ) (Lvl := ℕ) c (V0 m c)]
  unfold beside
  iintro ⟨Hb, -, Ho, -, Hp, -⟩
  isplitl [Hb]; · iexact Hb
  isplitl [Hp]; · iexists _; iexact Hp
  iexists _; iexact Ho

/-- What a run ends with: the result's buffer and both arguments' on every core as the last valuation has them, and every
    semaphore's counter at zero. -/
def Ends (r : PUnit × MemSt nD τ sig (Elt F)) : Prop :=
  (∀ c : Dev nD, r.2.mem ((c.tc : Thread nD τ).loc main_v3) = V4 m (outs m) c main_v3
    ∧ r.2.mem ((c.tc : Thread nD τ).loc main_arg0) = m ((c.tc : Thread nD τ).loc main_arg0)
    ∧ r.2.mem ((c.tc : Thread nD τ).loc main_arg1) = m ((c.tc : Thread nD τ).loc main_arg1))
  ∧ r.2.sem = fun _ => 0

set_option backward.isDefEq.respectTransparency.types false in
/-- Every run of the program ends so. -/
theorem run (ρ : Dev nD → PrngReg) :
    θ_run defs (onTc (τ := τ) (main (F := F))) ⟨m, fun _ => 0, ρ⟩ (Ends m) := by
  refine Pipeline.θ_run_regions_kit_dev_sems (pcfgs (F := F)) adm (pdats m) () cellOf_inj emb₁ defs₀ Variants.none cellIx cellLv m ρ main
    (segs m (outs m) Variants.none cellIx cellLv (fun _ => beside) () (pdats m) (region0 m) (region1 m))
    (fun c Q => by
      rewrite [main_chain c, Seg.run_eq_chain,
        show (segs m (outs m) Variants.none cellIx cellLv (fun _ => beside) () (pdats m) (region0 m) (region1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun g h => if_neg h)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside (F := F) c))
    (Tₙ := fun c => StableHlo.held (c : Thread nD τ) (Pipeline.ucRefs τ sig) (V4 m (outs m) c))
    (hch := fun c => ⟨.rfl, enter0 m c, (leave0 m c).trans (enter1 m c), leave1 m c, sep_mono .rfl (by
      unfold beside; iintro ⟨-, Ho⟩; iexact Ho)⟩)
    (hinit := ?_)
    (QY := fun c s => s.mem ((c.tc : Thread nD τ).loc main_v3) = V4 m (outs m) c main_v3
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ beside (F := F) c) : sProp 𝕄) :=
      bigSep_mono fun c _ => atLaunch m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c)⟩
    · iexact HSI

end Cert.KernelIdeal.Run
-- ==== Proof.Value.Spec.lean ====
/-
  The loss as a real number: what both programs are shown to compute. `X r d` is the real number at row
  `r`, column `d` of the points, `lab r` the cluster of row `r`.
-/
module

public import Idealize.ShloMosaic.PureOps.Ideal
public import Idealize.ShloMosaic.Lib.Pointwise.Index
public import Mathlib.Analysis.SpecialFunctions.Pow.NNReal

@[expose] public section

noncomputable section

namespace Cert.Value

open Idealize.ShloMosaic

/-- The shape of the points. -/
abbrev Pts : Shape := ⟨2, ![320000, 128]⟩
/-- The shape of the labels. -/
abbrev Labs : Shape := ⟨1, ![320000]⟩

variable (X : Fin 320000 → Fin 128 → ℝ) (lab : Fin 320000 → Fin 100)

/-- How many rows belong to cluster `k`. -/
def size (k : Fin 100) : ℝ := ∑ r, if lab r = k then 1 else 0

/-- The sum of the rows of cluster `k`, at column `d`. -/
def total (k : Fin 100) (d : Fin 128) : ℝ := ∑ r, if lab r = k then X r d else 0

/-- The centre of cluster `k`, at column `d`. -/
def center (k : Fin 100) (d : Fin 128) : ℝ := total X lab k d / size lab k

/-- The distance from row `r` to the centre of its cluster. -/
def spread (r : Fin 320000) : ℝ := √(∑ d, (X r d - center X lab (lab r) d) * (X r d - center X lab (lab r) d))

/-- The sum of all rows' distances to their centres. -/
def intra : ℝ := ∑ r, spread X lab r

/-- The distance between the centres of clusters `i` and `j`. -/
def gap (i j : Fin 100) : ℝ := √(∑ d, (center X lab i d - center X lab j d) * (center X lab i d - center X lab j d))

/-- The sum of the distances between centres over the pairs `i < j`. -/
def inter : ℝ := ∑ i, ∑ j, if i < j then gap X lab i j else 0

/-- The loss: the first sum over the second where the second is positive, else the first. -/
def loss : ℝ := if 0 < inter X lab then intra X lab / inter X lab else intra X lab

/-- The arrays `x`, `l` hold the real numbers `X` and the words of the clusters `lab`, and no cluster is empty. -/
structure Holds (x : Pts.Idx → EReal) (l : Labs.Idx → BitVec 32) : Prop where
  pts : ∀ r d, x (ix2 r d) = ((X r d : ℝ) : EReal)
  labs : ∀ r, l (ix1 r) = BitVec.ofNat 32 (lab r).val
  onto : ∀ k, ∃ r, lab r = k

variable {X lab}

/-- A cluster that has a row has a positive size. -/
theorem size_pos {k : Fin 100} (h : ∃ r, lab r = k) : 0 < size lab k := by
  obtain ⟨r, hr⟩ := h
  refine Finset.sum_pos' (fun i _ => by split <;> norm_num) ⟨r, Finset.mem_univ _, ?_⟩
  rw [if_pos hr]; norm_num

/-- The size of a cluster is the number of its rows. -/
theorem size_eq_card (k : Fin 100) : size lab k = ((Finset.univ.filter fun r => lab r = k).card : ℝ) := by
  unfold size
  rw [Finset.sum_boole]

/-- A sum of real numbers, taken in the extended reals, is their sum. -/
theorem coe_sum {ι : Type} (s : Finset ι) (f : ι → ℝ) : ∑ i ∈ s, ((f i : ℝ) : EReal) = ((∑ i ∈ s, f i : ℝ) : EReal) :=
  (map_sum (⟨⟨fun r : ℝ => (r : EReal), rfl⟩, fun _ _ => rfl⟩ : ℝ →+ EReal) f s).symm

/-- A quotient of real numbers by a nonzero one is the real quotient. -/
theorem coe_div (a b : ℝ) (hb : b ≠ 0) : Ideal.div (a : EReal) (b : EReal) = ((a / b : ℝ) : EReal) := by
  have h : ((b : EReal)) ≠ 0 := by exact_mod_cast hb
  unfold Ideal.div
  rw [if_neg h, div_eq_mul_inv, EReal.coe_mul, EReal.coe_inv]

/-- The square root of a nonnegative real number is the real square root. -/
theorem coe_sqrt {a : ℝ} (ha : 0 ≤ a) : Ideal.sqrt (a : EReal) = ((√a : ℝ) : EReal) := by
  rw [Ideal.sqrt_coe, if_neg (not_lt.2 ha)]

/-- The last step, at real numbers `a` and `b`: the quotient where `b` is positive, else `a`. -/
theorem select_quot (a b : ℝ) :
    Scalar.select (Ideal.cmp .ogt (b : EReal) (0 : EReal)) (Ideal.div (a : EReal) (b : EReal)) (a : EReal)
      = ((if 0 < b then a / b else a : ℝ) : EReal) := by
  by_cases h : 0 < b
  · have h' : (0 : EReal) < (b : EReal) := by exact_mod_cast h
    rw [if_pos h, coe_div a b h.ne']
    simp [Scalar.select, Ideal.cmp, h']
  · have h' : ¬ (0 : EReal) < (b : EReal) := by exact_mod_cast h
    rw [if_neg h]
    simp [Scalar.select, Ideal.cmp, h']

end Cert.Value
-- ==== Proof.Value.Pay.lean ====
/-
  The values the two kernel bodies compute, read at an index over blocks that hold real numbers and clusters.
-/
module

public import proofs.«01_k».proof.Proof.Value.Spec
public import proofs.«01_k».proof.Proof.Gen.KernelIdeal.Skeleton
public import Idealize.ShloMosaic.Lib.Pointwise
public import Idealize.ShloMosaic.PureOps.Ideal.Laws
public import Idealize.ShloMosaic.Lib.StableHlo.Predicate

@[expose] public section

set_option maxRecDepth 16384

noncomputable section

namespace Cert.Value.Pay

open Idealize.ShloMosaic Cert.KernelIdeal Cert.KernelIdeal.Gen

variable {c : Fin 3200 → Fin 100} {lab : Vec Ideal S1x1x3200 .i32}

/-- A bit, widened and made a number, is 0 or 1. -/
theorem number_of_eq (k k' : Fin 100) :
    (FloatOps.sitofp .f32 (BitVec.setWidth 32 (IntOp.cmpi .eq (BitVec.ofNat 32 k.val) (BitVec.ofNat 32 k'.val))) : Ideal .f32)
      = ((if k' = k then 1 else 0 : ℝ) : EReal) := by
  have e : BitVec.setWidth 32 (IntOp.cmpi .eq (BitVec.ofNat 32 k.val) (BitVec.ofNat 32 k'.val)) = if k' = k then 1#32 else 0#32 := by
    by_cases h : k' = k
    · subst h
      rw [if_pos rfl]
      simp [IntOp.cmpi]
    · have hn : BitVec.ofNat 32 k.val ≠ BitVec.ofNat 32 k'.val := fun e => h (by
        have e' := congrArg BitVec.toNat e
        rw [BitVec.toNat_ofNat, BitVec.toNat_ofNat] at e'
        exact Fin.ext (by have := k.isLt; have := k'.isLt; omega))
      rw [if_neg h]
      simp [IntOp.cmpi, beq_eq_false_iff_ne.2 hn]
  rw [e]
  change (((if k' = k then 1#32 else 0#32 : BitVec 32).toInt : ℝ) : EReal) = _
  by_cases h : k' = k
  · rw [if_pos h, if_pos h]; norm_num
  · rw [if_neg h, if_neg h]; norm_num

/-- The block's indicator of cluster `k` at row `j`. -/
theorem indicator (hlab : ∀ j, lab (ix3 0 0 j) = BitVec.ofNat 32 (c j).val) (k : Fin 100) (j : Fin 3200) :
    k0_pay1 lab (ix2 k j) = ((if c j = k then 1 else 0 : ℝ) : EReal) := by
  pointwise [k0_pay1]
  rw [hlab]
  exact number_of_eq k (c j)

/-- Pass 1 adds to each cluster's sum the block's rows of that cluster. -/
theorem sums_step {X : Fin 3200 → Fin 128 → ℝ} {x : Vec Ideal S3200x128 .f32} {acc : Vec Ideal S100x128 .f32} {a : ℝ}
    (hlab : ∀ j, lab (ix3 0 0 j) = BitVec.ofNat 32 (c j).val) (hx : ∀ j d, x (ix2 j d) = ((X j d : ℝ) : EReal))
    (k : Fin 100) (d : Fin 128) (ha : acc (ix2 k d) = (a : EReal)) :
    k0_pay4 lab x acc (ix2 k d) = ((a + ∑ j, if c j = k then X j d else 0 : ℝ) : EReal) := by
  pointwise [k0_pay4]
  rw [ha, EReal.coe_add, ← coe_sum]
  refine congrArg (_ + ·) (Finset.sum_congr rfl fun j _ => ?_)
  rw [indicator hlab, hx, ← EReal.coe_mul]
  by_cases h : c j = k
  · rw [if_pos h, if_pos h, one_mul]
  · rw [if_neg h, if_neg h, zero_mul]

/-- Pass 1 adds to each cluster's count the number of the block's rows of that cluster. -/
theorem counts_step {acc : Vec Ideal S100x128 .f32} {a : ℝ}
    (hlab : ∀ j, lab (ix3 0 0 j) = BitVec.ofNat 32 (c j).val) (k : Fin 100) (d : Fin 128) (ha : acc (ix2 k d) = (a : EReal)) :
    k0_pay5 lab acc (ix2 k d) = ((a + ∑ j, if c j = k then 1 else 0 : ℝ) : EReal) := by
  pointwise [k0_pay5]
  rw [ha, EReal.coe_add, ← coe_sum]
  exact congrArg (_ + ·) (Finset.sum_congr rfl fun j _ => indicator hlab k j)

/-- Pass 2 divides the sums by the counts. -/
theorem centers_at {s n : Vec Ideal S100x128 .f32} {a b : ℝ} (k : Fin 100) (d : Fin 128) (ha : s (ix2 k d) = (a : EReal))
    (hb : n (ix2 k d) = (b : EReal)) (h0 : b ≠ 0) : k1_pay1 s n (ix2 k d) = ((a / b : ℝ) : EReal) := by
  pointwise [k1_pay1]
  rw [ha, hb]
  exact coe_div a b h0

/-- Pass 2 adds to the running total the distances of the block's rows to their centres. -/
theorem total_step {X : Fin 3200 → Fin 128 → ℝ} {C : Fin 100 → Fin 128 → ℝ} {x : Vec Ideal S3200x128 .f32}
    {ctr : Vec Ideal S100x128 .f32} {v : Ideal .f32} {a : ℝ}
    (hlab : ∀ j, lab (ix3 0 0 j) = BitVec.ofNat 32 (c j).val) (hx : ∀ j d, x (ix2 j d) = ((X j d : ℝ) : EReal))
    (hc : ∀ k d, ctr (ix2 k d) = ((C k d : ℝ) : EReal)) (ha : v = (a : EReal)) :
    k1_pay2 lab ctr x v = ((a + ∑ j, √(∑ d, (X j d - C (c j) d) * (X j d - C (c j) d)) : ℝ) : EReal) := by
  pointwise [k1_pay2]
  have hpick : ∀ (j : Fin 3200) (d : Fin 128),
      ∑ k : Fin 100, (FloatOps.sitofp .f32 (BitVec.setWidth 32 (IntOp.cmpi .eq (BitVec.ofNat 32 k.val) (lab (ix3 0 0 j)))) : Ideal .f32) * ctr (ix2 k d)
        = ((C (c j) d : ℝ) : EReal) := fun j d => by
    refine Eq.trans (Finset.sum_congr rfl fun k _ => ?_) (Eq.trans (coe_sum Finset.univ fun k => if c j = k then C k d else 0) ?_)
    · rw [hlab, number_of_eq, hc, ← EReal.coe_mul]
      by_cases h : c j = k
      · rw [if_pos h, if_pos h, one_mul]
      · rw [if_neg h, if_neg h, zero_mul]
    · rw [Finset.sum_ite_eq, if_pos (Finset.mem_univ _)]
  rw [ha, EReal.coe_add, ← coe_sum]
  refine congrArg (_ + ·) (Finset.sum_congr rfl fun j _ => ?_)
  rw [← coe_sqrt (Finset.sum_nonneg fun d _ => mul_self_nonneg _), ← coe_sum]
  refine congrArg Ideal.sqrt (Finset.sum_congr rfl fun d _ => ?_)
  rw [hpick j d, hx, EReal.coe_mul, EReal.coe_sub]

/-- The pattern of the constant two. -/
theorem ofBits_two : Ideal.ofBits .f32 0x40000000#32 = ((2 : ℝ) : EReal) := by
  simp [Ideal.ofBits, Ideal.ieee]
  norm_num
  rw [← EReal.coe_mul]
  norm_num

/-- The square of a difference, summed, is the two sums of squares less twice the sum of products. -/
theorem sq_dist (u v : Fin 128 → ℝ) :
    (∑ d, u d * u d) + (∑ d, v d * v d) - 2 * ∑ d, u d * v d = ∑ d, (u d - v d) * (u d - v d) := by
  rw [Finset.mul_sum, ← Finset.sum_add_distrib, ← Finset.sum_sub_distrib]
  exact Finset.sum_congr rfl fun d _ => by ring

/-- What pass 2 writes at its last point: the total over the sum of the centres' distances, where that is positive. -/
theorem loss_at {C : Fin 100 → Fin 128 → ℝ} {ctr : Vec Ideal S100x128 .f32} {v : Ideal .f32} {a : ℝ}
    (hc : ∀ k d, ctr (ix2 k d) = ((C k d : ℝ) : EReal)) (ha : v = (a : EReal)) {b : ℝ}
    (hb : b = ∑ i, ∑ j, if i < j then √(∑ d, (C i d - C j d) * (C i d - C j d)) else 0) :
    k1_pay3 ctr v = ((if 0 < b then a / b else a : ℝ) : EReal) := by
  pointwise [k1_pay3]
  have hs : ∀ i j : Fin 100, ∑ d, ctr (ix2 i d) * ctr (ix2 j d) = ((∑ d, C i d * C j d : ℝ) : EReal) := fun i j => by
    rw [← coe_sum]
    exact Finset.sum_congr rfl fun d _ => by rw [hc, hc, EReal.coe_mul]
  have hg : ∀ i j : Fin 100, Scalar.select (IntOp.cmpi .sgt (BitVec.ofNat 32 j.val) (BitVec.ofNat 32 i.val))
      (Ideal.sqrt (max (∑ d, ctr (ix2 i d) * ctr (ix2 i d) + ∑ d, ctr (ix2 j d) * ctr (ix2 j d)
        - Ideal.ofBits .f32 0x40000000#32 * ∑ d, ctr (ix2 i d) * ctr (ix2 j d)) 0)) (0 : EReal)
      = ((if i < j then √(∑ d, (C i d - C j d) * (C i d - C j d)) else 0 : ℝ) : EReal) := fun i j => by
    have h0 : 0 ≤ ∑ d, (C i d - C j d) * (C i d - C j d) := Finset.sum_nonneg fun d _ => mul_self_nonneg _
    rw [hs, hs, hs, ofBits_two, ← EReal.coe_add, ← EReal.coe_mul, ← EReal.coe_sub, sq_dist, max_eq_left (by exact_mod_cast h0), coe_sqrt h0]
    have hk : IntOp.cmpi .sgt (BitVec.ofNat 32 j.val) (BitVec.ofNat 32 i.val) = BitVec.ofBool (decide (i < j)) := by
      have ht : ∀ k : Fin 100, (BitVec.ofNat 32 k.val).toInt = (k.val : Int) := fun k =>
        StableHlo.Predicate.toInt_ofNat_small _ (Nat.lt_of_lt_of_le k.isLt (by norm_num))
      change BitVec.ofBool (BitVec.slt _ _) = _
      rw [BitVec.slt, ht, ht]
      exact congrArg BitVec.ofBool (decide_eq_decide.2 (by rw [Fin.lt_def]; omega))
    rw [hk]
    by_cases h : i < j
    · rw [if_pos h, decide_eq_true h]; rfl
    · rw [if_neg h, decide_eq_false h]; rfl
  have hI : (∑ i : Fin 100, ∑ j : Fin 100, Scalar.select (IntOp.cmpi .sgt (BitVec.ofNat 32 j.val) (BitVec.ofNat 32 i.val))
      (Ideal.sqrt (max (∑ d, ctr (ix2 i d) * ctr (ix2 i d) + ∑ d, ctr (ix2 j d) * ctr (ix2 j d)
        - Ideal.ofBits .f32 0x40000000#32 * ∑ d, ctr (ix2 i d) * ctr (ix2 j d)) 0)) (0 : EReal)) = (b : EReal) := by
    rw [hb, ← coe_sum]
    refine Finset.sum_congr rfl fun i _ => ?_
    rw [← coe_sum]
    exact Finset.sum_congr rfl fun j _ => hg i j
  rw [hI, ha]
  by_cases h : 0 < b
  · rw [if_pos h, if_pos (by exact_mod_cast h)]
    exact coe_div a b h.ne'
  · rw [if_neg h, if_neg (by exact_mod_cast h)]

end Cert.Value.Pay
-- ==== Proof.Value.Kernel.lean ====
/-
  The kernel's result: over arrays that hold real numbers and clusters, what the two calls leave is the loss.
-/
module

public import proofs.«01_k».proof.Proof.Value.Pay
public import proofs.«01_k».proof.Proof.KernelIdeal.Whole
public import Idealize.ShloMosaic.Lib.Pipeline.ValueKit
public import Idealize.ShloMosaic.Lib.Claim

@[expose] public section

set_option maxRecDepth 16384

noncomputable section

namespace Cert.Value.Kernel

open Idealize.ShloMosaic Idealize.ShloMosaic.TcCoe Idealize.SL.Sem
open Cert.KernelIdeal Cert.KernelIdeal.Gen Cert.KernelIdeal.Run
open Idealize.ShloMosaic.Pipeline (Dat)

/-! ## The rows, block by block -/

/-- Row `j` of block `t`. -/
def row (t : ℕ) (j : Fin 3200) : Fin 320000 := ⟨(t * 3200 + j.val) % 320000, Nat.mod_lt _ (by norm_num)⟩

/-- Row `j` of a block below the hundredth is row `3200 t + j`. -/
theorem row_val {t : ℕ} (ht : t < 100) (j : Fin 3200) : (row t j).val = t * 3200 + j.val :=
  Nat.mod_eq_of_lt (by have := j.isLt; omega)

/-- A sum over all rows is the sum over the blocks of the sums over their rows. -/
theorem sum_rows (f : Fin 320000 → ℝ) : ∑ r, f r = ∑ t ∈ Finset.range 100, ∑ j, f (row t j) := by
  rw [Finset.sum_range, ← Fintype.sum_prod_type']
  refine (Fintype.sum_equiv (finProdFinEquiv (m := 100) (n := 3200)) _ _ fun p => ?_).symm
  refine congrArg f (Fin.ext ?_)
  rw [row_val p.1.isLt]
  show _ = p.2.val + 3200 * p.1.val
  omega

/-! ## The blocks -/

/-- Where the windows of the first call lie. -/
theorem idx0 : ∀ t : Fin cfg0.N, win0_0.index t = ![t.val, 0, 0] ∧ win0_1.index t = ![t.val, 0] :=
  (by decide +kernel : ∀ t : Fin grid0.N, _)

/-- Where the windows of the second call lie. -/
theorem idx1 : ∀ t : Fin cfg1.N, win1_0.index t = ![t.val, 0, 0] ∧ win1_1.index t = ![t.val, 0]
    ∧ win1_2.index t = ![0, 0] ∧ win1_3.index t = ![0, 0] :=
  (by decide +kernel : ∀ t : Fin grid1.N, _)

variable (V : Dev nD → Valuation τ sig (Elt Ideal)) (c : Dev nD)

/-- The first call's block of labels is row `t` of the reshaped labels. -/
theorem blk0_lab (t : Fin cfg0.N) (j : Fin 3200) (t' : Fin 100) (ht : t'.val = t.val) :
    (blk0 V c 0 t : Vec Ideal S1x1x3200 .i32) (ix3 0 0 j) = (V c (Proc.devRef .tc main_v0) : Vec Ideal S100x1x3200 .i32) (ix3 t' 0 j) := by
  blk_ext [blk0, idx0 t]

/-- The first call's block of points is its 3200 rows of the array. -/
theorem blk0_pts (t : Fin cfg0.N) (j : Fin 3200) (d : Fin 128) (r : Fin 320000) (hr : r.val = t.val * 3200 + j.val) :
    (blk0 V c 1 t : Vec Ideal S3200x128 .f32) (ix2 j d) = (V c (Proc.devRef .tc main_arg0) : Vec Ideal S320000x128 .f32) (ix2 r d) := by
  blk_ext [blk0, idx0 t]

/-- The second call's block of labels is row `t` of the reshaped labels. -/
theorem blk1_lab (t : Fin cfg1.N) (j : Fin 3200) (t' : Fin 100) (ht : t'.val = t.val) :
    (blk1 V c 0 t : Vec Ideal S1x1x3200 .i32) (ix3 0 0 j) = (V c (Proc.devRef .tc main_v0) : Vec Ideal S100x1x3200 .i32) (ix3 t' 0 j) := by
  blk_ext [blk1, idx1 t]

/-- The second call's block of points is its 3200 rows of the array. -/
theorem blk1_pts (t : Fin cfg1.N) (j : Fin 3200) (d : Fin 128) (r : Fin 320000) (hr : r.val = t.val * 3200 + j.val) :
    (blk1 V c 1 t : Vec Ideal S3200x128 .f32) (ix2 j d) = (V c (Proc.devRef .tc main_arg0) : Vec Ideal S320000x128 .f32) (ix2 r d) := by
  blk_ext [blk1, idx1 t]

/-- The second call's block of sums is the whole array. -/
theorem blk1_sums (t : Fin cfg1.N) (k : Fin 100) (d : Fin 128) :
    (blk1 V c 2 t : Vec Ideal S100x128 .f32) (ix2 k d) = (V c (Proc.devRef .tc main_v1_0) : Vec Ideal S100x128 .f32) (ix2 k d) := by
  blk_ext [blk1, idx1 t]

/-- The second call's block of sizes is the whole array. -/
theorem blk1_counts (t : Fin cfg1.N) (k : Fin 100) (d : Fin 128) :
    (blk1 V c 3 t : Vec Ideal S100x128 .f32) (ix2 k d) = (V c (Proc.devRef .tc main_v1_1) : Vec Ideal S100x128 .f32) (ix2 k d) := by
  blk_ext [blk1, idx1 t]

/-! ## The arrays the calls leave -/

/-- The last point of the first call. -/
def last0 : Fin cfg0.N := ⟨99, by decide +kernel⟩

/-- The last point of the second call. -/
def last1 : Fin cfg1.N := ⟨99, by decide +kernel⟩

/-- The first call leaves the sums after its last point. -/
theorem arr_sums (k : Fin 100) (d : Fin 128) :
    ((dat0 V c).arrAt 2 cfg0.N : Vec Ideal S100x128 .f32) (ix2 k d) = sumsAt V c last0.val last0.isLt (ix2 k d) := by
  refine congrFun (Dat.arrAt_eq_of_after_last (dat := dat0 V c) 2 last0 (by decide +kernel)
    (sumsAt V c last0.val last0.isLt) ?_) (ix2 k d)
  intro j
  blk_simp
  rfl

/-- The first call leaves the sizes after its last point. -/
theorem arr_counts (k : Fin 100) (d : Fin 128) :
    ((dat0 V c).arrAt 3 cfg0.N : Vec Ideal S100x128 .f32) (ix2 k d) = countsAt V c last0.val last0.isLt (ix2 k d) := by
  refine congrFun (Dat.arrAt_eq_of_after_last (dat := dat0 V c) 3 last0 (by decide +kernel)
    (countsAt V c last0.val last0.isLt) ?_) (ix2 k d)
  intro j
  blk_simp
  rfl

/-- The second call leaves the loss after its last point. -/
theorem arr_loss :
    ((dat1 V c).arrAt 4 cfg1.N : Vec Ideal S1x1 .f32)
      = fun _ => k1_pay3 (ctrs V c) (accAt V c last1.val last1.isLt) := by
  refine Dat.arrAt_eq_of_after_last (dat := dat1 V c) 4 last1 (by decide +kernel) _ ?_
  intro j
  blk_simp
  rfl

/-! ## The labels on entry -/

variable (m : (ℓ : Loc nD τ sig) → Buf (Elt Ideal) ℓ)

/-- The reshaped labels at block `t`, row `j`. -/
theorem entry_lab (t : Fin 100) (j : Fin 3200) (r : Fin 320000) (hr : r.val = t.val * 3200 + j.val) :
    (V1 m c (Proc.devRef .tc main_v0) : Vec Ideal S100x1x3200 .i32) (ix3 t 0 j)
      = (m (c.tc.loc main_arg1) : Vec Ideal S320000 .i32) (ix1 r) := by
  show (StableHlo.after hostOps0 (V0 m c) (Proc.devRef .tc main_v0) : Vec Ideal S100x1x3200 .i32) (ix3 t 0 j) = _
  entry_read
  pointwise
  exact congrArg (fun r => (m (c.tc.loc main_arg1) : Vec Ideal S320000 .i32) (ix1 r)) (Fin.ext hr.symm)

/-- No host operation before the calls writes the points. -/
theorem entry_pts : V1 m c (Proc.devRef .tc main_arg0) = m (c.tc.loc main_arg0) :=
  V1_of m c main_arg0 (by decide)

/-! ## The accumulators -/

variable {X : Fin 320000 → Fin 128 → ℝ} {lab : Fin 320000 → Fin 100}

/-- The calls' blocks, as the entry valuation `V` gives them, hold the rows of `X` and the words of their clusters `lab`. -/
structure Entry (X : Fin 320000 → Fin 128 → ℝ) (lab : Fin 320000 → Fin 100) (V : Dev nD → Valuation τ sig (Elt Ideal)) (c : Dev nD) : Prop where
  labs : ∀ (t : Fin 100) (j : Fin 3200),
    (V c (Proc.devRef .tc main_v0) : Vec Ideal S100x1x3200 .i32) (ix3 t 0 j) = BitVec.ofNat 32 (lab (row t.val j)).val
  pts : ∀ r d, (V c (Proc.devRef .tc main_arg0) : Vec Ideal S320000x128 .f32) (ix2 r d) = ((X r d : ℝ) : EReal)

variable {V c}

/-- The first call's grid has a hundred points. -/
theorem lt0 {n : ℕ} (h : n < cfg0.N) : n < 100 := lt_of_lt_of_eq h N_0

/-- The second call's grid has a hundred points. -/
theorem lt1 {n : ℕ} (h : n < cfg1.N) : n < 100 := lt_of_lt_of_eq h N_1

/-- The labels of a block of the first call. -/
theorem Entry.lab0 (e : Entry X lab V c) {n : ℕ} (h : n < cfg0.N) (j : Fin 3200) :
    (blk0 V c 0 ⟨n, h⟩ : Vec Ideal S1x1x3200 .i32) (ix3 0 0 j) = BitVec.ofNat 32 (lab (row n j)).val :=
  (blk0_lab V c ⟨n, h⟩ j ⟨n, lt0 h⟩ rfl).trans (e.labs _ j)

/-- The points of a block of the first call. -/
theorem Entry.pts0 (e : Entry X lab V c) {n : ℕ} (h : n < cfg0.N) (j : Fin 3200) (d : Fin 128) :
    (blk0 V c 1 ⟨n, h⟩ : Vec Ideal S3200x128 .f32) (ix2 j d) = ((X (row n j) d : ℝ) : EReal) :=
  (blk0_pts V c ⟨n, h⟩ j d (row n j) (row_val (lt0 h) j)).trans (e.pts _ d)

/-- The labels of a block of the second call. -/
theorem Entry.lab1 (e : Entry X lab V c) {n : ℕ} (h : n < cfg1.N) (j : Fin 3200) :
    (blk1 V c 0 ⟨n, h⟩ : Vec Ideal S1x1x3200 .i32) (ix3 0 0 j) = BitVec.ofNat 32 (lab (row n j)).val :=
  (blk1_lab V c ⟨n, h⟩ j ⟨n, lt1 h⟩ rfl).trans (e.labs _ j)

/-- The points of a block of the second call. -/
theorem Entry.pts1 (e : Entry X lab V c) {n : ℕ} (h : n < cfg1.N) (j : Fin 3200) (d : Fin 128) :
    (blk1 V c 1 ⟨n, h⟩ : Vec Ideal S3200x128 .f32) (ix2 j d) = ((X (row n j) d : ℝ) : EReal) :=
  (blk1_pts V c ⟨n, h⟩ j d (row n j) (row_val (lt1 h) j)).trans (e.pts _ d)

/-- The first accumulator starts at zero. -/
theorem sums_zero (k : Fin 100) (d : Fin 128) : k0_pay2 (F := Ideal) (ix2 k d) = ((0 : ℝ) : EReal) := by
  pointwise [k0_pay2]
  rfl

/-- The second accumulator starts at zero. -/
theorem counts_zero (k : Fin 100) (d : Fin 128) : k0_pay3 (F := Ideal) (ix2 k d) = ((0 : ℝ) : EReal) := by
  pointwise [k0_pay3]
  rfl

/-- After point `n` the first accumulator holds each cluster's sum over the rows of the blocks so far. -/
theorem sums_upto (e : Entry X lab V c) (k : Fin 100) (d : Fin 128) : ∀ (n : ℕ) (h : n < cfg0.N),
    sumsAt V c n h (ix2 k d)
      = ((∑ t ∈ Finset.range (n + 1), ∑ j, if lab (row t j) = k then X (row t j) d else 0 : ℝ) : EReal)
  | 0, h => by
    rw [Finset.sum_range_succ]
    exact Pay.sums_step (e.lab0 h) (e.pts0 h) k d ((sums_zero k d).trans (by rw [Finset.sum_range_zero]))
  | n + 1, h => by
    rw [Finset.sum_range_succ]
    exact Pay.sums_step (e.lab0 h) (e.pts0 h) k d (sums_upto e k d n _)

/-- After point `n` the second accumulator holds each cluster's number of rows in the blocks so far. -/
theorem counts_upto (e : Entry X lab V c) (k : Fin 100) (d : Fin 128) : ∀ (n : ℕ) (h : n < cfg0.N),
    countsAt V c n h (ix2 k d) = ((∑ t ∈ Finset.range (n + 1), ∑ j, if lab (row t j) = k then 1 else 0 : ℝ) : EReal)
  | 0, h => by
    rw [Finset.sum_range_succ]
    exact Pay.counts_step (e.lab0 h) k d ((counts_zero k d).trans (by rw [Finset.sum_range_zero]))
  | n + 1, h => by
    rw [Finset.sum_range_succ]
    exact Pay.counts_step (e.lab0 h) k d (counts_upto e k d n _)

/-- The running total after point `n` is the sum of the distances to the centres `C` over the rows of the blocks so far. -/
theorem acc_upto (e : Entry X lab V c) {C : Fin 100 → Fin 128 → ℝ} (hc : ∀ k d, ctrs V c (ix2 k d) = ((C k d : ℝ) : EReal)) :
    ∀ (n : ℕ) (h : n < cfg1.N), accAt V c n h
      = ((∑ t ∈ Finset.range (n + 1), ∑ j,
          √(∑ d, (X (row t j) d - C (lab (row t j)) d) * (X (row t j) d - C (lab (row t j)) d)) : ℝ) : EReal)
  | 0, h => by
    rw [Finset.sum_range_succ]
    refine Pay.total_step (C := C) (e.lab1 h) (e.pts1 h) hc ?_
    rw [Finset.sum_range_zero]
    exact Ideal.ofBits_zero_f32
  | n + 1, h => by
    rw [Finset.sum_range_succ]
    exact Pay.total_step (C := C) (e.lab1 h) (e.pts1 h) hc (acc_upto e hc n _)

/-! ## The result -/

variable {m}

/-- The first call is entered with the arrays the memory holds. -/
theorem entry_first (h : Holds X lab (m (c.tc.loc main_arg0)) (m (c.tc.loc main_arg1))) : Entry X lab (V1 m) c where
  labs t j := (entry_lab c m t j (row t.val j) (row_val t.isLt j)).trans (h.labs _)
  pts r d := by rw [entry_pts]; exact h.pts r d

/-- The second call is entered with the same arrays. -/
theorem entry_second (h : Holds X lab (m (c.tc.loc main_arg0)) (m (c.tc.loc main_arg1))) : Entry X lab (mid m) c where
  labs t j := by
    rw [mid_of m c _ (by decide) (by decide)]
    exact (entry_first h).labs t j
  pts r d := by
    rw [mid_of m c _ (by decide) (by decide)]
    exact (entry_first h).pts r d

/-- The second call forms the centres of the clusters. -/
theorem centers (h : Holds X lab (m (c.tc.loc main_arg0)) (m (c.tc.loc main_arg1))) (k : Fin 100) (d : Fin 128) :
    ctrs (mid m) c (ix2 k d) = ((center X lab k d : ℝ) : EReal) := by
  refine Pay.centers_at k d ?_ ?_ (size_pos (h.onto k)).ne'
  · refine (blk1_sums _ c _ k d).trans ?_
    rw [mid_sums]
    refine (arr_sums (V1 m) c k d).trans ((sums_upto (entry_first h) k d _ _).trans (congrArg _ ?_))
    exact (sum_rows fun r => if lab r = k then X r d else 0).symm
  · refine (blk1_counts _ c _ k d).trans ?_
    rw [mid_counts]
    refine (arr_counts (V1 m) c k d).trans ((counts_upto (entry_first h) k d _ _).trans (congrArg _ ?_))
    exact (sum_rows fun r => if lab r = k then 1 else 0).symm

/-- What the second call leaves is the loss. -/
theorem left (h : Holds X lab (m (c.tc.loc main_arg0)) (m (c.tc.loc main_arg1))) :
    (fin m c (Proc.devRef .tc main_v2) : Vec Ideal S1x1 .f32) = fun _ => ((loss X lab : ℝ) : EReal) := by
  rw [fin_loss]
  refine (arr_loss (mid m) c).trans (funext fun _ => ?_)
  refine Pay.loss_at (a := intra X lab) (b := inter X lab) (centers h) ?_ rfl
  refine (acc_upto (entry_second h) (centers h) _ _).trans (congrArg _ ?_)
  exact (sum_rows fun r => spread X lab r).symm

/-- The kernel's result, the scalar the last reshape leaves, is the loss. -/
theorem result (h : Holds X lab (m (c.tc.loc main_arg0)) (m (c.tc.loc main_arg1))) :
    (V4 m (outs m) c (Proc.devRef .tc main_v3) : Vec Ideal S_ .f32) = fun _ => ((loss X lab : ℝ) : EReal) := by
  show (StableHlo.after hostOps2 (V3 m (outs m) c) (Proc.devRef .tc main_v3) : Vec Ideal S_ .f32) = _
  rw [V3_eq]
  entry_read
  rw [left h]
  rfl

end Cert.Value.Kernel
-- ==== Proof.Value.Pre.lean ====
/-
  What the precondition says of the arguments: the points are real numbers, the labels are words of clusters,
  and every cluster has a row.
-/
module

public import proofs.«01_k».proof.Proof.Value.Spec
public import proofs.«01_k».proof.Proof.Gen.Pre_sound
public import Idealize.ShloMosaic.Lib.ReduceAll
public import Idealize.ShloMosaic.Lib.Routing.OpsOrder
public import Idealize.ShloMosaic.PureOps.Ideal.Laws

@[expose] public section

set_option maxRecDepth 16384

noncomputable section

namespace Cert.Value

open Idealize.ShloMosaic Cert.Pre_sound Cert.Pre_sound.Gen

/-- An extended real whose absolute value is below something is a real number. -/
theorem real_of_abs_lt {a b : EReal} (h : max a (-a) < b) : ∃ r : ℝ, a = (r : EReal) := by
  induction a using EReal.rec with
  | bot => exact absurd h (by simp)
  | top => exact absurd h (by simp)
  | coe r => exact ⟨r, rfl⟩

/-- A comparison «less than» that is 1 holds. -/
theorem lt_of_cmp {a b : EReal} (h : Ideal.cmp .olt a b = 1#1) : a < b := by
  by_contra hn
  have e : Ideal.cmp .olt a b = BitVec.ofBool (decide (a < b)) := rfl
  rw [e, decide_eq_false hn] at h
  exact absurd h (by decide)

/-- A word between 0 and 99, read signed, is the word of a cluster. -/
theorem cluster_of_word {w : BitVec 32} (h0 : (0#32 : BitVec 32).toInt ≤ w.toInt) (h1 : w.toInt < (100#32 : BitVec 32).toInt) :
    ∃ k : Fin 100, w = BitVec.ofNat 32 k.val := by
  have e0 : (0#32 : BitVec 32).toInt = 0 := rfl
  have e1 : (100#32 : BitVec 32).toInt = 100 := rfl
  rw [e0] at h0; rw [e1] at h1
  have hn : w.toNat < 100 := by
    have := BitVec.toInt_eq_toNat_cond w
    have hw := w.isLt
    split at this <;> omega
  exact ⟨⟨w.toNat, hn⟩, BitVec.eq_of_toNat_eq (by rw [BitVec.toNat_ofNat]; show w.toNat = w.toNat % 2 ^ 32; omega)⟩

/-- Clusters with the same word are the same. -/
theorem cluster_inj {k k' : Fin 100} (h : BitVec.ofNat 32 k.val = BitVec.ofNat 32 k'.val) : k = k' := by
  have e := congrArg BitVec.toNat h
  rw [BitVec.toNat_ofNat, BitVec.toNat_ofNat] at e
  exact Fin.ext (by have := k.isLt; have := k'.isLt; omega)

instance : Subsingleton S_.Idx := ⟨fun a b => funext fun i => i.elim0⟩

/-- A `jnp.any` along the second axis that is 1 has a 1 in its row. -/
theorem any_row (p : IVec S100x320000 1) (init : IVec S_ 1) (hi : ∀ i, init i = 0#1) (k : Fin 100)
    (h : Host.reduce IntOp.ori p init reducesTo_S100x320000_S100_d1 h_S_ (ix1 k) = 1#1) : ∃ r, p (ix2 k r) = 1#1 := by
  rw [Host.reduce_eq_fold, hi] at h
  obtain ⟨i, hi, hp⟩ := (Routing.fold_ori _ _).1 h
  have hk : i 0 = k := by
    have hd := (Finset.mem_filter.1 hi).2
    have hv : (reducesTo_S100x320000_S100_d1.drop i 0 : Nat) = i 0 := Shape.ReducesTo.drop_apply_val reducesTo_S100x320000_S100_d1 i 0
    rw [hd] at hv
    exact Fin.ext hv.symm
  subst hk
  exact ⟨i 1, (congrArg p (eq_ix2 i).symm).trans hp⟩

/-- Arguments that meet the precondition hold real numbers and the words of clusters, none of which is empty. -/
theorem holds_of_pre (x : FVec Ideal S320000x128 .f32) (l : IVec S320000 32) (h : Cert.Pre_sound.fn (F := Ideal) x l = fun _ => 1#1) :
    ∃ X lab, Holds X lab x l := by
  have h0 := congrFun h ix0
  unfold Cert.Pre_sound.fn at h0
  obtain ⟨h1, hocc⟩ := IntOp.andi_eq_one.1 h0
  obtain ⟨hfin, hrng⟩ := IntOp.andi_eq_one.1 h1
  have hx : ∀ i, ∃ r : ℝ, x i = (r : EReal) := fun i => by
    have hb := Host.reduce_andi_all _ _ _ _ _ hfin i
    exact real_of_abs_lt (lt_of_cmp hb)
  have hl : ∀ i, ∃ k : Fin 100, l i = BitVec.ofNat 32 k.val := fun i => by
    obtain ⟨a, b⟩ := IntOp.andi_eq_one.1 (Host.reduce_andi_all _ _ _ _ _ hrng i)
    exact cluster_of_word (IntOp.cmpi_sge.1 a) (IntOp.cmpi_slt.1 b)
  choose X hX using hx
  choose lab hlab using hl
  refine ⟨fun r d => X (ix2 r d), fun r => lab (ix1 r), fun r d => hX _, fun r => hlab _, fun k => ?_⟩
  obtain ⟨r, hr⟩ := any_row _ _ (fun _ => rfl) k (Host.reduce_andi_all _ _ _ _ _ hocc (ix1 k))
  refine ⟨r, (cluster_inj ?_).symm⟩
  have e := IntOp.cmpi_eq.1 hr
  rw [← hlab]
  refine Eq.trans e (congrArg l (funext fun a => ?_))
  match a with
  | ⟨0, _⟩ => rfl

end Cert.Value
-- ==== Proof.Value.Scatter.lean ====
/-
  The reference's three indexed reads and writes: the count of the rows of each cluster, the sum of the rows
  of each cluster, and the row of centres that a label names.
-/
module

public import proofs.«01_k».proof.Proof.Value.Spec
public import proofs.«01_k».proof.Proof.Gen.ReferenceIdeal
public import Idealize.ShloMosaic.Lib.Routing.OpsPair
public import Idealize.ShloMosaic.Lib.Routing.Ops
public import Idealize.ShloMosaic.Lib.Pointwise.IndexBridge

@[expose] public section

set_option maxRecDepth 16384

noncomputable section

namespace Cert.Value

open Idealize.ShloMosaic Cert.ReferenceIdeal Cert.ReferenceIdeal.Gen

variable {lab : Fin 320000 → Fin 100}

/-- The word of a cluster, read signed, is its number. -/
theorem toInt_lab (k : Fin 100) : (BitVec.ofNat 32 k.val).toInt = (k.val : Int) :=
  StableHlo.Predicate.toInt_ofNat_small _ (Nat.lt_of_lt_of_le k.isLt (by norm_num))

/-- In the count, row `r` lands at the cluster its word names. -/
theorem count_lands (idx : IVec S320000x1 32) (r : Fin 320000) (k : Fin 100) (l : Fin 100)
    (h : idx (ix2 r (0 : Fin 1)) = BitVec.ofNat 32 l.val) :
    scatter_S100_S320000x1_S320000_n_0_0_1.resultIdx? (ix1 r) idx = some (ix1 k) ↔ l = k := by
  refine (Routing.resultIdx?_ix1 scatter_S100_S320000x1_S320000_n_0_0_1 (ix1 r) idx k).trans ?_
  have hs : scatter_S100_S320000x1_S320000_n_0_0_1.start (ix1 r) idx 0 = (idx (ix2 r (0 : Fin 1))).toInt := by
    refine congrArg (fun i => (idx i).toInt) (funext fun b => ?_)
    match b with
    | ⟨0, _⟩ => rfl
    | ⟨1, _⟩ => rfl
  have hw : scatter_S100_S320000x1_S320000_n_0_0_1.window (ix1 r) 0 = 0 := rfl
  rw [hs, hw, h, toInt_lab, Fin.ext_iff]
  omega

/-- In the sum, element `(r, e)` lands at column `e` of the cluster its row's word names. -/
theorem sum_lands (idx : IVec S320000x1 32) (r : Fin 320000) (e : Fin 128) (k : Fin 100) (d : Fin 128) (l : Fin 100)
    (h : idx (ix2 r (0 : Fin 1)) = BitVec.ofNat 32 l.val) :
    scatter_S100x128_S320000x1_S320000x128_1_0_0_1.resultIdx? (ix2 r e) idx = some (ix2 k d) ↔ l = k ∧ e = d := by
  refine (Routing.resultIdx?_ix2 scatter_S100x128_S320000x1_S320000x128_1_0_0_1 (ix2 r e) idx k d).trans ?_
  have hs : scatter_S100x128_S320000x1_S320000x128_1_0_0_1.start (ix2 r e) idx 0 = (idx (ix2 r (0 : Fin 1))).toInt := by
    refine congrArg (fun i => (idx i).toInt) (funext fun b => ?_)
    match b with
    | ⟨0, _⟩ => rfl
    | ⟨1, _⟩ => rfl
  have hs1 : scatter_S100x128_S320000x1_S320000x128_1_0_0_1.start (ix2 r e) idx 1 = 0 := rfl
  have hw : scatter_S100x128_S320000x1_S320000x128_1_0_0_1.window (ix2 r e) 0 = 0 := rfl
  have hw1 : scatter_S100x128_S320000x1_S320000x128_1_0_0_1.window (ix2 r e) 1 = e.val := rfl
  rw [hs, hs1, hw, hw1, h, toInt_lab, Fin.ext_iff, Fin.ext_iff]
  omega

/-- Adding ones one after another counts the places where one is added. -/
theorem foldl_ones {α : Type} (p : α → Prop) [DecidablePred p] (L : List α) (a : BitVec 32) :
    L.foldl (fun a n => if p n then IntOp.addi a 1#32 else a) a = a + BitVec.ofNat 32 (L.countP p) := by
  induction L generalizing a with
  | nil => simp
  | cons n L ih =>
    rw [List.foldl_cons, ih, List.countP_cons]
    by_cases h : p n
    · simp only [h, if_true, decide_true, IntOp.addi]
      rw [BitVec.add_assoc, ← BitVec.ofNat_add, Nat.add_comm]
    · simp [h]

/-- The number of places of a full list with a property is the size of the set of them. -/
theorem countP_finRange_card (n : ℕ) (p : Fin n → Prop) [DecidablePred p] :
    (List.finRange n).countP p = (Finset.univ.filter p).card := by
  rw [List.countP_eq_length_filter]
  rfl

/-- A scatter that adds ones counts, at each element, the updates that land there. -/
theorem scatter_ones {s si u : Shape} (D : ScatterDims s si u) (x0 : IVec s 32) (idx : IVec si 32) (upd : IVec u 32)
    (hupd : ∀ i, upd i = 1#32) (ι : s.Idx) :
    Host.scatter D IntOp.addi x0 idx upd ι
      = x0 ι + BitVec.ofNat 32 (Finset.univ.filter fun j => D.resultIdx? j idx = some ι).card := by
  rw [Routing.scatter_at]
  simp only [hupd]
  rw [foldl_ones (fun n => D.resultIdx? (u.rowMajor.symm n) idx = some ι), countP_finRange_card]
  congr 2
  refine Finset.card_equiv u.rowMajor.symm fun n => ?_
  rw [Finset.mem_filter, Finset.mem_filter]
  simp only [Finset.mem_univ, true_and]

/-- The count of the rows of cluster `k`, as a word. -/
theorem count_apply (x0 : IVec S100 32) (hx0 : ∀ i, x0 i = 0#32) (idx : IVec S320000x1 32) (upd : IVec S320000 32)
    (hupd : ∀ i, upd i = 1#32) (hidx : ∀ r, idx (ix2 r (0 : Fin 1)) = BitVec.ofNat 32 (lab r).val) (k : Fin 100) :
    Host.scatter scatter_S100_S320000x1_S320000_n_0_0_1 IntOp.addi x0 idx upd (ix1 k)
      = BitVec.ofNat 32 (Finset.univ.filter fun r => lab r = k).card := by
  refine (scatter_ones _ x0 idx upd hupd (ix1 k)).trans ?_
  rw [hx0, BitVec.zero_add]
  refine congrArg (BitVec.ofNat 32) ?_
  refine (Finset.card_equiv (⟨fun r => ix1 r, fun i => i 0, fun _ => rfl, fun i => ix1_eta i⟩ : Fin 320000 ≃ S320000.Idx) fun r => ?_).symm
  rw [Finset.mem_filter, Finset.mem_filter]
  simp only [Finset.mem_univ, true_and]
  exact (count_lands idx r k _ (hidx r)).symm

/-- The sum of the rows of cluster `k`, at column `d`. -/
theorem sum_apply {X : Fin 320000 → Fin 128 → ℝ} (x0 : FVec Ideal S100x128 .f32) (hx0 : ∀ i, x0 i = (0 : EReal)) (idx : IVec S320000x1 32)
    (upd : FVec Ideal S320000x128 .f32) (hupd : ∀ r e, upd (ix2 r e) = ((X r e : ℝ) : EReal))
    (hidx : ∀ r, idx (ix2 r (0 : Fin 1)) = BitVec.ofNat 32 (lab r).val) (k : Fin 100) (d : Fin 128) :
    Host.scatterAdd scatter_S100x128_S320000x1_S320000x128_1_0_0_1 x0 idx upd (ix2 k d)
      = ((total X lab k d : ℝ) : EReal) := by
  change x0 (ix2 k d) + ∑ j ∈ Finset.univ.filter (fun j => scatter_S100x128_S320000x1_S320000x128_1_0_0_1.resultIdx? j idx = some (ix2 k d)), (upd j : EReal) = _
  rw [hx0, zero_add, Finset.sum_filter]
  refine (sum_idx2 (n0 := 320000) (n1 := 128) _).trans ?_
  unfold total
  rw [← coe_sum]
  refine Finset.sum_congr rfl fun r _ => ?_
  by_cases hr : lab r = k
  · rw [if_pos hr]
    rw [Finset.sum_eq_single d]
    · rw [if_pos ((sum_lands idx r d k d _ (hidx r)).2 ⟨hr, rfl⟩), hupd]
    · intro e _ he
      exact if_neg fun h => he ((sum_lands idx r e k d _ (hidx r)).1 h).2
    · intro h; exact absurd (Finset.mem_univ _) h
  · rw [if_neg hr]
    refine Finset.sum_eq_zero fun e _ => if_neg fun h => hr ((sum_lands idx r e k d _ (hidx r)).1 h).1

/-- The row of the centres that row `r`'s word names. -/
theorem take_apply {α : Type} (C : S100x128.Idx → α) (idx : IVec S320000x1 32)
    (hidx : ∀ r, idx (ix2 r (0 : Fin 1)) = BitVec.ofNat 32 (lab r).val) (r : Fin 320000) (d : Fin 128) :
    Host.gather gather_S100x128_S320000x1_S320000x128_1_0_n_n_0_1_1128 C idx (ix2 r d) = C (ix2 (lab r) d) :=
  Routing.gather_row gather_S100x128_S320000x1_S320000x128_1_0_n_n_0_1_1128 rfl rfl rfl rfl rfl C idx r d (lab r) (hidx r) (by norm_num)

end Cert.Value
-- ==== Proof.Value.Ref.lean ====
/-
  The reference's result, read one operation at a time: over arrays that hold real numbers and clusters it is
  the loss.
-/
module

public import proofs.«01_k».proof.Proof.Value.Scatter
public import proofs.«01_k».proof.Proof.Gen.ReferenceIdeal.Read

@[expose] public section

set_option maxRecDepth 16384

noncomputable section

namespace Cert.Value.Ref

open Idealize.ShloMosaic Cert.ReferenceIdeal Cert.ReferenceIdeal.Gen Cert.ReferenceIdeal.Read

variable {X : Fin 320000 → Fin 128 → ℝ} {lab : Fin 320000 → Fin 100}
variable {x : FVec Ideal S320000x128 .f32} {l : IVec S320000 32}

/-- Clamping a cluster's word below at zero leaves it. -/
theorem clamp_word : ∀ k : Fin 100, IntOp.maxsi 0#32 (BitVec.ofNat 32 k.val) = BitVec.ofNat 32 k.val := by decide

/-- A cluster's word is not negative, so the wrap of negative words leaves it. -/
theorem wrap_word : ∀ k : Fin 100,
    Scalar.select (IntOp.cmpi .slt (BitVec.ofNat 32 k.val) 0#32) (IntOp.addi (BitVec.ofNat 32 k.val) 100#32) (BitVec.ofNat 32 k.val)
      = BitVec.ofNat 32 k.val := by decide

/-- The words that the count scatters by. -/
theorem words_count (h : Holds X lab x l) (r : Fin 320000) :
    val_main_v7 (F := Ideal) l (ix2 r (0 : Fin 1)) = BitVec.ofNat 32 (lab r).val := by
  have e : idx_main_v7 (ix2 r (0 : Fin 1)) = ix1 r := by funext a; match a with | ⟨0, _⟩ => rfl
  rw [val_main_v7_apply, e, val_main_v6_apply, val_main_v3_apply, val_main_v5_apply, val_main_v1_apply, val_main_v2_apply,
    val_main_v4_apply, val_main_c_1_apply, val_main_c_2_apply, val_main_call0_v1_apply, val_main_call0_v0_apply, val_main_c_0_apply]
  rw [h.labs r, clamp_word, wrap_word]

/-- The words that the sum scatters by. -/
theorem words_sum (h : Holds X lab x l) (r : Fin 320000) :
    val_main_v12 (F := Ideal) l (ix2 r (0 : Fin 1)) = BitVec.ofNat 32 (lab r).val := by
  have e : idx_main_v12 (ix2 r (0 : Fin 1)) = ix1 r := by funext a; match a with | ⟨0, _⟩ => rfl
  rw [val_main_v12_apply, e, h.labs r]

/-- The words that pick each row's centre. -/
theorem words_take (h : Holds X lab x l) (r : Fin 320000) :
    val_main_v22 (F := Ideal) l (ix2 r (0 : Fin 1)) = BitVec.ofNat 32 (lab r).val := by
  have e : idx_main_v22 (ix2 r (0 : Fin 1)) = ix1 r := by funext a; match a with | ⟨0, _⟩ => rfl
  rw [val_main_v22_apply, e, val_main_v21_apply, val_main_v18_apply, val_main_v20_apply, val_main_v17_apply, val_main_v19_apply,
    val_main_c_4_apply, val_main_c_5_apply, h.labs r, wrap_word]

/-- The counts, as numbers. -/
theorem counts (h : Holds X lab x l) (k : Fin 100) : val_main_v10 (F := Ideal) l (ix1 k) = ((size lab k : ℝ) : EReal) := by
  rw [val_main_v10_apply]
  unfold val_main_v9
  rw [count_apply (lab := lab) _ (fun i => by rw [val_main_v0_apply, val_main_c_apply]) _ _
    (fun i => by rw [val_main_v8_apply, val_main_c_3_apply]) (words_count h) k, size_eq_card]
  have hc : (Finset.univ.filter fun r => lab r = k).card < 2 ^ 31 :=
    Nat.lt_of_le_of_lt (Finset.card_le_univ _) (by rw [Fintype.card_fin]; norm_num)
  change (((BitVec.ofNat 32 (Finset.univ.filter fun r => lab r = k).card).toInt : ℝ) : EReal) = _
  rw [StableHlo.Predicate.toInt_ofNat_small _ hc, Int.cast_natCast]

/-- The centres. -/
theorem centers (h : Holds X lab x l) (k : Fin 100) (d : Fin 128) :
    val_main_v16 (F := Ideal) x l (ix2 k d) = ((center X lab k d : ℝ) : EReal) := by
  have e : idx_main_v14 (idx_main_v15 (ix2 k d)) = ix1 k := by funext a; match a with | ⟨0, _⟩ => rfl
  rw [val_main_v16_apply, val_main_v15_apply, val_main_v14_apply, e, counts h k]
  unfold val_main_v13
  rw [sum_apply _ (fun i => by rw [val_main_v11_apply, val_main_cst_apply]; exact Ideal.ofBits_zero_f32) _ _ h.pts (words_sum h) k d]
  exact coe_div _ _ (size_pos (h.onto k)).ne'

/-- A row's distance to its centre. -/
theorem spreads (h : Holds X lab x l) (r : Fin 320000) : val_main_v25 (F := Ideal) x l (ix1 r) = ((spread X lab r : ℝ) : EReal) := by
  have e : ∀ d : Fin 128, val_main_call1_v0 (F := Ideal) x l (idx_main_call1_v1 (ix1 r) d)
      = (((X r d - center X lab (lab r) d) * (X r d - center X lab (lab r) d) : ℝ) : EReal) := fun d => by
    have e1 : idx_main_call1_v1 (ix1 r) d = ix2 r d := by funext a; match a with | ⟨0, _⟩ => rfl | ⟨1, _⟩ => rfl
    rw [e1, val_main_call1_v0_apply, val_main_v24_apply]
    unfold val_main_v23
    rw [take_apply _ _ (words_take h), centers h, h.pts r d, EReal.coe_mul, EReal.coe_sub]
    rfl
  rw [val_main_v25_apply, val_main_call1_v1_apply, val_main_call1_cst_apply, Ideal.ofBits_def, Ideal.ofBits_zero_f32, zero_add,
    Finset.sum_congr rfl fun d _ => e d, coe_sum]
  exact coe_sqrt (Finset.sum_nonneg fun d _ => mul_self_nonneg _)

/-- The sum of the distances to the centres. -/
theorem intras (h : Holds X lab x l) (i : S_.Idx) : val_main_v26 (F := Ideal) x l i = ((intra X lab : ℝ) : EReal) := by
  rw [val_main_v26_apply, val_main_cst_6_apply, Ideal.ofBits_def, Ideal.ofBits_zero_f32, zero_add]
  refine (sum_idx1 (n0 := 320000) _).trans ?_
  rw [Finset.sum_congr rfl fun r _ => spreads h r, coe_sum]
  rfl

/-- The distance between two centres. -/
theorem gaps (h : Holds X lab x l) (i j : Fin 100) : val_main_v32 (F := Ideal) x l (ix2 i j) = ((gap X lab i j : ℝ) : EReal) := by
  have e : ∀ d : Fin 128, val_main_call2_v0 (F := Ideal) x l (idx_main_call2_v1 (ix2 i j) d)
      = (((center X lab i d - center X lab j d) * (center X lab i d - center X lab j d) : ℝ) : EReal) := fun d => by
    have e1 : idx_main_v27 (idx_main_v29 (idx_main_call2_v1 (ix2 i j) d)) = ix2 i d := by
      funext a; match a with | ⟨0, _⟩ => rfl | ⟨1, _⟩ => rfl
    have e2 : idx_main_v28 (idx_main_v30 (idx_main_call2_v1 (ix2 i j) d)) = ix2 j d := by
      funext a; match a with | ⟨0, _⟩ => rfl | ⟨1, _⟩ => rfl
    rw [val_main_call2_v0_apply, val_main_v31_apply, val_main_v29_apply, val_main_v30_apply, val_main_v27_apply, val_main_v28_apply,
      e1, e2, centers h, centers h, EReal.coe_mul, EReal.coe_sub]
    rfl
  rw [val_main_v32_apply, val_main_call2_v1_apply, val_main_call2_cst_apply, Ideal.ofBits_def, Ideal.ofBits_zero_f32, zero_add,
    Finset.sum_congr rfl fun d _ => e d, coe_sum]
  exact coe_sqrt (Finset.sum_nonneg fun d _ => mul_self_nonneg _)

/-- The sum of the distances between centres. -/
theorem inters (h : Holds X lab x l) (i : S_.Idx) : val_main_v34 (F := Ideal) x l i = ((inter X lab : ℝ) : EReal) := by
  rw [val_main_v34_apply, val_main_cst_7_apply, Ideal.ofBits_def, Ideal.ofBits_zero_f32, zero_add]
  refine (sum_idx2 (n0 := 100) (n1 := 100) _).trans ?_
  unfold inter
  rw [← coe_sum]
  refine Finset.sum_congr rfl fun a _ => ?_
  rw [← coe_sum]
  refine Finset.sum_congr rfl fun b _ => ?_
  rw [val_main_v33_apply, gaps h, val_main_call3_v4_apply, val_main_call3_v2_apply, val_main_call3_v0_apply, val_main_call3_v1_apply,
    val_main_call3_v3_apply, val_main_call3_c_apply, val_main_call3_v5_apply, val_main_call3_cst_apply, Ideal.ofBits_def, Ideal.ofBits_zero_f32]
  change Scalar.select (BitVec.ofBool ((BitVec.ofNat 32 b.val).sle (BitVec.ofNat 32 a.val + 0#32))) (0 : EReal) _ = _
  have hk : (BitVec.ofNat 32 b.val).sle (BitVec.ofNat 32 a.val + 0#32) = decide (b ≤ a) := by
    rw [BitVec.add_zero, BitVec.sle, toInt_lab, toInt_lab]
    exact decide_eq_decide.2 (by rw [Fin.le_def]; omega)
  rw [hk]
  by_cases hab : a < b
  · rw [if_pos hab, decide_eq_false (not_le.2 hab)]; rfl
  · rw [if_neg hab, decide_eq_true (not_lt.1 hab)]; rfl

/-- The reference's result is the loss. -/
theorem result (h : Holds X lab x l) : val_main_v37 (F := Ideal) x l = fun _ => ((loss X lab : ℝ) : EReal) := by
  funext i
  rw [val_main_v37_apply, val_main_v35_apply, val_main_v36_apply, val_main_cst_8_apply, intras h, inters h, Ideal.ofBits_def,
    Ideal.ofBits_zero_f32]
  exact select_quot (intra X lab) (inter X lab)

end Cert.Value.Ref
-- ==== Proof.lean ====
/-
  The proof of the certificate's claims.
-/
module

public import proofs.«01_k».proof.Defs
public import proofs.«01_k».proof.Proof.Kernel.Whole
public import proofs.«01_k».proof.Proof.KernelIdeal.Whole
public import proofs.«01_k».proof.Proof.Value.Kernel
public import proofs.«01_k».proof.Proof.Value.Pre
public import proofs.«01_k».proof.Proof.Value.Ref
public import proofs.«01_k».proof.Proof.Gen.Kernel
public import proofs.«01_k».proof.Proof.Gen.KernelIdeal
public import proofs.«01_k».proof.Proof.Gen.ReferenceIdeal
public import proofs.«01_k».proof.Proof.Gen.Pre_sound
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The kernel's program, read over the extended reals, ends with its arguments unchanged and its semaphores at zero. -/
theorem frame_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)) ∧ r.2.sem = fun _ => 0) :=
  (θ_run _ _ _).mono (fun _ h => ⟨fun c => (h.1 c).2, h.2⟩) (Cert.KernelIdeal.Run.run m g)

/-- The reference's program ends with its arguments unchanged and its semaphores at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)) ∧ r.2.sem = fun _ => 0) :=
  (θ_run _ _ _).mono (fun r h => ⟨fun c => (h c).2, sem_eq_zero_of_no_sems (by decide) r.2⟩) (Cert.ReferenceIdeal.Value.run m g)

/-- Where the points are finite, the labels are clusters and no cluster is empty, kernel and reference end with the same loss. -/
theorem same_loss (hPre : Cert.Pre_sound.Facts) :
    Cert.algebraic_KernelIdeal_ReferenceIdeal_pre_sound (hKernelIdeal := Cert.KernelIdeal.Gen.facts)
      (hReferenceIdeal := Cert.ReferenceIdeal.Gen.facts) (hPre_sound := hPre) := by
  intro m g m' g' hpre hagree
  refine ⟨fun c => Cert.KernelIdeal.Gen.V4 m (Cert.KernelIdeal.Run.outs m) c (Proc.devRef .tc Cert.KernelIdeal.main_v3),
    (θ_run _ _ _).mono (fun _ h => h.1) (Cert.KernelIdeal.Run.run m g), ?_⟩
  refine (θ_run _ _ _).mono (fun r h c => ⟨(h c).1.trans ?_, (h c).2⟩) (Cert.ReferenceIdeal.Value.run m' g')
  obtain ⟨X, lab, hold⟩ := Cert.Value.holds_of_pre _ _ (hpre c)
  rw [Cert.ReferenceIdeal.Read.val_main_v37_eq, (hagree c).1, (hagree c).2]
  exact (Cert.Value.Ref.result hold).trans (Cert.Value.Kernel.result hold).symm

/-- Every claim of the certificate. -/
theorem claim : Cert.Claim :=
  ⟨Cert.Kernel.Gen.facts, Cert.KernelIdeal.Gen.facts, Cert.ReferenceIdeal.Gen.facts, Cert.Pre_sound.Gen.facts,
    fun m g _ => (θ_run _ _ _).mono (fun _ h => ⟨fun c => (h.1 c).2, h.2⟩) (Cert.Kernel.Run.run m g),
    fun m g _ => frame_ideal m g, fun m g _ => frame_ideal m g,
    fun m g _ => frame_reference m g, fun m g _ => frame_reference m g,
    trivial, same_loss _⟩

end Cert.Proof

end
